-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S32x1x128x8192 : Shape := ⟨4, ![32, 1, 128, 8192]⟩
abbrev S128 : Shape := ⟨1, ![128]⟩
abbrev S_ : Shape := ⟨0, ![]⟩

class Facts : Prop where
  bcast_S_S32x1x128x8192 : S_.BroadcastsInDim S32x1x128x8192 (![] : Fin 0 → Fin S32x1x128x8192.rank)
  reducesTo_S32x1x128x8192_S_d0_1_2_3 : S32x1x128x8192.ReducesTo [0, 1, 2, 3] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S32x1x128x8192 .f32) (main_arg1 : FVec F S128 .f32) (main_arg2 : FVec F S128 .f32) (main_arg3 : FVec F S128 .f32) (main_arg4 : FVec F S128 .f32) : IVec S_ 1 :=
  let main_cst : FVec F S_ .f32 := constant S_ .f32 0x00000000#32
  let main_v0 : FVec F S32x1x128x8192 .f32 := broadcastInDim S32x1x128x8192 ![] bcast_S_S32x1x128x8192 main_cst
  let main_v1 : IVec S32x1x128x8192 1 := cmpf .oge main_arg0 main_v0
  let main_c : IVec S_ 1 := constantI S_ 1 1#1
  let main_v2 : IVec S_ 1 := (fun x v => Host.reduce IntOp.andi x v reducesTo_S32x1x128x8192_S_d0_1_2_3 h_S_) main_v1 main_c
  let main_cst_0 : FVec F S_ .f32 := constant S_ .f32 0x7F800000#32
  let main_v3 : FVec F S32x1x128x8192 .f32 := broadcastInDim S32x1x128x8192 ![] bcast_S_S32x1x128x8192 main_cst_0
  let main_v4 : IVec S32x1x128x8192 1 := cmpf .olt main_arg0 main_v3
  let main_c_1 : IVec S_ 1 := constantI S_ 1 1#1
  let main_v5 : IVec S_ 1 := (fun x v => Host.reduce IntOp.andi x v reducesTo_S32x1x128x8192_S_d0_1_2_3 h_S_) main_v4 main_c_1
  let main_v6 : IVec S_ 1 := andi main_v2 main_v5
  let main_cst_2 : FVec F S_ .f32 := constant S_ .f32 0xFF800000#32
  let main_v7 : FVec F S128 .f32 := broadcastInDim S128 ![] bcast_S_S128 main_cst_2
  let main_v8 : IVec S128 1 := cmpf .ogt main_arg1 main_v7
  let main_c_3 : IVec S_ 1 := constantI S_ 1 1#1
  let main_v9 : IVec S_ 1 := (fun x v => Host.reduce IntOp.andi x v reducesTo_S128_S_d0 h_S_) main_v8 main_c_3
  let main_v10 : IVec S_ 1 := andi main_v6 main_v9
  let main_cst_4 : FVec F S_ .f32 := constant S_ .f32 0x00000000#32
  let main_v11 : FVec F S128 .f32 := broadcastInDim S128 ![] bcast_S_S128 main_cst_4
  let main_v12 : IVec S128 1 := cmpf .oge main_arg2 main_v11
  let main_c_5 : IVec S_ 1 := constantI S_ 1 1#1
  let main_v13 : IVec S_ 1 := (fun x v => Host.reduce IntOp.andi x v reducesTo_S128_S_d0 h_S_) main_v12 main_c_5
  let main_v14 : IVec S_ 1 := andi main_v10 main_v13
  main_v14
-- ==== Kernel.lean ====
abbrev S32x1x128x8192 : Shape := ⟨4, ![32, 1, 128, 8192]⟩
abbrev S128 : Shape := ⟨1, ![128]⟩
abbrev S4096x8192 : Shape := ⟨2, ![4096, 8192]⟩
abbrev S_ : Shape := ⟨0, ![]⟩
abbrev S128x1 : Shape := ⟨2, ![128, 1]⟩
abbrev S128x8 : Shape := ⟨2, ![128, 8]⟩
abbrev S1x128x1x8 : Shape := ⟨4, ![1, 128, 1, 8]⟩
abbrev S32x128x1x8 : Shape := ⟨4, ![32, 128, 1, 8]⟩
abbrev S4096x8 : Shape := ⟨2, ![4096, 8]⟩
abbrev S128x128 : Shape := ⟨2, ![128, 128]⟩
abbrev S128x256 : Shape := ⟨2, ![128, 256]⟩
abbrev S2048x8 : Shape := ⟨2, ![2048, 8]⟩
abbrev S2048x1024 : Shape := ⟨2, ![2048, 1024]⟩
abbrev S2048x128 : Shape := ⟨2, ![2048, 128]⟩
abbrev S2048x1 : Shape := ⟨2, ![2048, 1]⟩
abbrev S1x128 : Shape := ⟨2, ![1, 128]⟩
abbrev S2048x256 : Shape := ⟨2, ![2048, 256]⟩

abbrev nBuf : Space → Nat
  | .hbm => 58
  | .vmem => 15
  | .smem => 0
  | _ => 0

abbrev bufTy : (tb : Table) → Fin (tcTables nBuf tb) → BufTy
  | .hbm, ⟨0, _⟩ => ⟨S32x1x128x8192, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S4096x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S128x1, .f32⟩
  | .hbm, ⟨38, _⟩ => ⟨S128x1, .f32⟩
  | .hbm, ⟨39, _⟩ => ⟨S128x8, .f32⟩
  | .hbm, ⟨40, _⟩ => ⟨S1x128x1x8, .f32⟩
  | .hbm, ⟨41, _⟩ => ⟨S32x128x1x8, .f32⟩
  | .hbm, ⟨42, _⟩ => ⟨S4096x8, .f32⟩
  | .hbm, ⟨43, _⟩ => ⟨S_, .f32⟩
  | .hbm, ⟨44, _⟩ => ⟨S128x128, .f32⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .f32⟩
  | .hbm, ⟨52, _⟩ => ⟨S128x128, .f32⟩
  | .hbm, ⟨53, _⟩ => ⟨S128x128, .f32⟩
  | .hbm, ⟨54, _⟩ => ⟨S_, .f32⟩
  | .hbm, ⟨55, _⟩ => ⟨S128x128, .f32⟩
  | .hbm, ⟨56, _⟩ => ⟨S128x256, .f32⟩
  | .hbm, ⟨57, _⟩ => ⟨S4096x8192, .f32⟩
  | .local _ .vmem, ⟨0, _⟩ => ⟨S2048x8, .f32⟩
  | .local _ .vmem, ⟨1, _⟩ => ⟨S2048x8, .f32⟩
  | .local _ .vmem, ⟨2, _⟩ => ⟨S128x256, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | _, _ => ⟨S32x1x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev main_cst_4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_cst_6 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_cst : Ref sig .tc := ⟨.hbm, 51, rfl⟩
abbrev main_call1_v5 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32x1x128x8192 : Shape := ⟨4, ![32, 1, 128, 8192]⟩
abbrev S128 : Shape := ⟨1, ![128]⟩
abbrev S32x128x8192 : Shape := ⟨3, ![32, 128, 8192]⟩
abbrev S_ : Shape := ⟨0, ![]⟩
abbrev S8192x32x128 : Shape := ⟨3, ![8192, 32, 128]⟩
abbrev S1x32x128 : Shape := ⟨3, ![1, 32, 128]⟩
abbrev S32x128 : Shape := ⟨2, ![32, 128]⟩
abbrev S8191x32x128 : Shape := ⟨3, ![8191, 32, 128]⟩
abbrev S1x128 : Shape := ⟨2, ![1, 128]⟩
abbrev S32x8192x128 : Shape := ⟨3, ![32, 8192, 128]⟩
abbrev S1x1x128 : Shape := ⟨3, ![1, 1, 128]⟩
abbrev S4096x8192 : Shape := ⟨2, ![4096, 8192]⟩

abbrev nBuf : Space → Nat
  | .hbm => 80
  | .vmem => 0
  | .smem => 0
  | _ => 0

abbrev bufTy : (tb : Table) → Fin (tcTables nBuf tb) → BufTy
  | .hbm, ⟨0, _⟩ => ⟨S32x1x128x8192, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S32x128x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S8192x32x128, .f32⟩
  | .hbm, ⟨21, _⟩ => ⟨S1x32x128, .f32⟩
  | .hbm, ⟨22, _⟩ => ⟨S32x128, .f32⟩
  | .hbm, ⟨23, _⟩ => ⟨S8191x32x128, .f32⟩
  | .hbm, ⟨24, _⟩ => ⟨S_, .f32⟩
  | .hbm, ⟨25, _⟩ => ⟨S8191x32x128, .f32⟩
  | .hbm, ⟨26, _⟩ => ⟨S_, .i32⟩
  | .hbm, ⟨27, _⟩ => ⟨S8191x32x128, .f32⟩
  | .hbm, ⟨28, _⟩ => ⟨S128, .f32⟩
  | .hbm, ⟨29, _⟩ => ⟨S_, .i32⟩
  | .hbm, ⟨30, _⟩ => ⟨S32x128, .f32⟩
  | .hbm, ⟨31, _⟩ => ⟨S8191x32x128, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1x32x128, .f32⟩
  | .hbm, ⟨37, _⟩ => ⟨S32x128, .f32⟩
  | .hbm, ⟨38, _⟩ => ⟨S1x128, .f32⟩
  | .hbm, ⟨39, _⟩ => ⟨S32x128, .f32⟩
  | .hbm, ⟨40, _⟩ => ⟨S32x128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S32x128, .f32⟩
  | .hbm, ⟨46, _⟩ => ⟨S32x128, .f32⟩
  | .hbm, ⟨47, _⟩ => ⟨S32x128, .f32⟩
  | .hbm, ⟨48, _⟩ => ⟨S1x32x128, .f32⟩
  | .hbm, ⟨49, _⟩ => ⟨S_, .i32⟩
  | .hbm, ⟨50, _⟩ => ⟨S_, .i32⟩
  | .hbm, ⟨51, _⟩ => ⟨S8191x32x128, .f32⟩
  | .hbm, ⟨52, _⟩ => ⟨S_, .i32⟩
  | .hbm, ⟨53, _⟩ => ⟨S_, .i32⟩
  | .hbm, ⟨54, _⟩ => ⟨S1x32x128, .f32⟩
  | .hbm, ⟨55, _⟩ => ⟨S8192x32x128, .f32⟩
  | .hbm, ⟨56, _⟩ => ⟨S32x8192x128, .f32⟩
  | .hbm, ⟨57, _⟩ => ⟨S32x8192x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S32x8192x128, .f32⟩
  | .hbm, ⟨63, _⟩ => ⟨S32x8192x128, .f32⟩
  | .hbm, ⟨64, _⟩ => ⟨S1x1x128, .f32⟩
  | .hbm, ⟨65, _⟩ => ⟨S32x8192x128, .f32⟩
  | .hbm, ⟨66, _⟩ => ⟨S32x8192x128, .f32⟩
  | .hbm, ⟨67, _⟩ => ⟨S32x8192x128, .f32⟩
  | .hbm, ⟨68, _⟩ => ⟨S1x1x128, .f32⟩
  | .hbm, ⟨69, _⟩ => ⟨S32x8192x128, .f32⟩
  | .hbm, ⟨70, _⟩ => ⟨S32x8192x128, .f32⟩
  | .hbm, ⟨71, _⟩ => ⟨S1x1x128, .f32⟩
  | .hbm, ⟨72, _⟩ => ⟨S32x8192x128, .f32⟩
  | .hbm, ⟨73, _⟩ => ⟨S32x8192x128, .f32⟩
  | .hbm, ⟨74, _⟩ => ⟨S128, .f32⟩
  | .hbm, ⟨75, _⟩ => ⟨S1x1x128, .f32⟩
  | .hbm, ⟨76, _⟩ => ⟨S32x8192x128, .f32⟩
  | .hbm, ⟨77, _⟩ => ⟨S32x8192x128, .f32⟩
  | .hbm, ⟨78, _⟩ => ⟨S32x128x8192, .f32⟩
  | .hbm, ⟨79, _⟩ => ⟨S4096x8192, .f32⟩
  | _, _ => ⟨S32x1x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_c : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v11_4 : Ref sig .tc := ⟨.hbm, 31, rfl⟩
abbrev main_while0c_c_10 : Ref sig .tc := ⟨.hbm, 32, rfl⟩
abbrev main_while0c_v36 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v36 : Ref sig .tc := ⟨.hbm, 37, rfl⟩
abbrev main_while0b_v37 : Ref sig .tc := ⟨.hbm, 38, rfl⟩
abbrev main_while0b_v38 : Ref sig .tc := ⟨.hbm, 39, rfl⟩
abbrev main_while0b_v39 : Ref sig .tc := ⟨.hbm, 40, rfl⟩
abbrev main_while0b_cst_10 : Ref sig .tc := ⟨.hbm, 41, rfl⟩
abbrev main_while0b_v40 : Ref sig .tc := ⟨.hbm, 42, rfl⟩
abbrev main_while0b_v41 : Ref sig .tc := ⟨.hbm, 43, rfl⟩
abbrev main_while0b_v42 : Ref sig .tc := ⟨.hbm, 44, rfl⟩
abbrev main_while0b_v43 : Ref sig .tc := ⟨.hbm, 45, rfl⟩
abbrev main_while0b_v44 : Ref sig .tc := ⟨.hbm, 46, rfl⟩
abbrev main_while0b_v45 : Ref sig .tc := ⟨.hbm, 47, rfl⟩
abbrev main_while0b_call2_v0 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_v46 : Ref sig .tc := ⟨.hbm, 51, rfl⟩
abbrev main_while0b_c_11 : Ref sig .tc := ⟨.hbm, 52, rfl⟩
abbrev main_while0b_v47 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_4 : Ref sig .tc := ⟨.hbm, 58, rfl⟩
abbrev main_v16 : Ref sig .tc := ⟨.hbm, 59, rfl⟩
abbrev main_v17 : Ref sig .tc := ⟨.hbm, 60, rfl⟩
abbrev main_cst_5 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩

abbrev nD : Nat := 1
abbrev τ : Topo := Topo.v7x

variable {F : FTy → Type} [FloatOps F]

abbrev main_while0_count : Scf.Loop 32 := ⟨0#32, 8191#32, 1#32⟩
-- ==== Proof.Chunk.lean ====
/-
  What one grid point's body computes, in a vocabulary of its own: a point handles eight chunks of 128 columns one after
  the other, every chunk the same function of the chunk's columns, the constants kept in scratch and the carry the chunk
  before left. Any float values.
-/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Chunk

open Cert.KernelIdeal Cert.KernelIdeal.Gen

variable {F : FTy → Type} [FloatOps F] [Named F]

/-- Chunk `j` of a block: its columns `128 j, …, 128 j + 127`. -/
def chunk (x : Vec F S2048x1024 .f32) (j : ℕ) : Vec F S2048x128 .f32 := fun y =>
  x (ix2 (y 0) ⟨(128 * j + (y 1).val) % 1024, Nat.mod_lt _ (by decide)⟩)

/-- Loading 128 columns from column `128 j` on reads chunk `j`. -/
theorem ld_chunk (x : Vec F S2048x1024 .f32) (j o : ℕ) (ho : o = 128 * j) (hj : j < 8)
    (h : ∀ a, (![0, o] : Fin 2 → ℕ) a + (![2048, 128] : Fin 2 → ℕ) a ≤ S2048x1024.size a) :
    View.ld x (Rect.unit ![0, o] ![2048, 128] h) = chunk x j := by
  subst ho
  funext y
  have h1 : (y 1).val < 128 := (y 1).isLt
  show x _ = x _
  congr 1
  funext a
  apply Fin.ext
  match a with
  | ⟨0, _⟩ => show 0 + 1 * (y 0).val = (y 0).val; omega
  | ⟨1, _⟩ => show 128 * j + 1 * (y 1).val = (128 * j + (y 1).val) % 1024; omega

/-- The weighted columns of a chunk times the table: running sums in the left half, totals in the right. -/
def sums (winvp : Vec F S2048x128 .f32) (u : Vec F S128x256 .f32) (xs : Vec F S2048x128 .f32) : FVec F S2048x256 .f32 :=
  matmul dot_S2048x128_S128x256_S2048x256_1_0_0_1_n_n none (mulf xs winvp : FVec F S2048x128 .f32) u
    (constant S2048x256 .f32 0x00000000#32)

/-- The carry after a chunk, from the carry before it. -/
def carry (winvp ap : Vec F S2048x128 .f32) (u : Vec F S128x256 .f32) (ac xs : Vec F S2048x128 .f32) : Vec F S2048x128 .f32 :=
  mulf ap (addf (extractStridedSlice S2048x128 ![0, 128] (sums winvp u xs) slices_S2048x256_o0_128_S2048x128) ac)

/-- The smoothed energies of a chunk. -/
def smooth (p winvp : Vec F S2048x128 .f32) (u : Vec F S128x256 .f32) (ac xs : Vec F S2048x128 .f32) : Vec F S2048x128 .f32 :=
  mulf p (addf (extractStridedSlice S2048x128 ![0, 0] (sums winvp u xs) slices_S2048x256_o0_0_S2048x128) ac)

/-- What a chunk writes, from its columns and its smoothed energies. -/
def compress (na invr delta dr xs ema : Vec F S2048x128 .f32) : Vec F S2048x128 .f32 :=
  subf (exp2 (mulf invr (mulf (log (addf (mulf xs (exp2 (mulf na (mulf
    (log (addf ema (broadcast S2048x128 (Scalar.ofBits .f32 0x358637BD#32))))
    (broadcast S2048x128 (Named.named κ "log2e" 0x3FB8AA3B#32)))))) delta))
    (broadcast S2048x128 (Named.named κ "log2e" 0x3FB8AA3B#32))))) dr

/-- The carry before chunk `j` of a point, from the carry before the point. -/
def carries (winvp ap : Vec F S2048x128 .f32) (u : Vec F S128x256 .f32) (x : Vec F S2048x1024 .f32) (ac : Vec F S2048x128 .f32) :
    ℕ → Vec F S2048x128 .f32
  | 0 => ac
  | j + 1 => carry winvp ap u (carries winvp ap u x ac j) (chunk x j)

/-- Chunk `j` of what a point writes. -/
def piece (u : Vec F S128x256 .f32) (x : Vec F S2048x1024 .f32) (ac p winvp ap na invr delta dr : Vec F S2048x128 .f32) (j : ℕ) :
    Vec F S2048x128 .f32 :=
  compress na invr delta dr (chunk x j) (smooth p winvp u (carries winvp ap u x ac j) (chunk x j))

/-- What a point writes: its eight chunks side by side. -/
def block (u : Vec F S128x256 .f32) (x : Vec F S2048x1024 .f32) (ac p winvp ap na invr delta dr : Vec F S2048x128 .f32) :
    Vec F S2048x1024 .f32 := fun y =>
  piece u x ac p winvp ap na invr delta dr ((y 1).val / 128) (ix2 (y 0) ⟨(y 1).val % 128, Nat.mod_lt _ (by decide)⟩)

/-- Inside chunk `j`, `block` is `piece j`. -/
theorem block_eq (u : Vec F S128x256 .f32) (x : Vec F S2048x1024 .f32) (ac p winvp ap na invr delta dr : Vec F S2048x128 .f32)
    (y : S2048x1024.Idx) (z : S2048x128.Idx) (j : ℕ) (h0 : (y 0).val = (z 0).val) (h1 : (y 1).val = 128 * j + (z 1).val) :
    block u x ac p winvp ap na invr delta dr y = piece u x ac p winvp ap na invr delta dr j z := by
  have hz : (z 1).val < 128 := (z 1).isLt
  unfold block
  rw [show (y 1).val / 128 = j by omega]
  congr 1
  funext a
  apply Fin.ext
  match a with
  | ⟨0, _⟩ => exact h0
  | ⟨1, _⟩ => show (y 1).val % 128 = (z 1).val; omega

/-- A point that is not the first of its run leaves the carry after its eight chunks. -/
theorem carry_B (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : ¬cond0_0 i) (x0 : Vec F S2048x8 .f32) (x1 : Vec F S128x256 .f32) (x2 : Vec F S2048x1024 .f32) (xs0 : Vec F S2048x128 .f32) (xs1 : Vec F S2048x128 .f32) (xs2 : Vec F S2048x128 .f32) (xs3 : Vec F S2048x128 .f32) (xs4 : Vec F S2048x128 .f32) (xs5 : Vec F S2048x128 .f32) (xs6 : Vec F S2048x128 .f32) (xs7 : Vec F S2048x128 .f32) :
    sout0_B_0 c i arg2 harg2 arg3 harg3 arg4 harg4 arg5 harg5 arg6 harg6 arg7 harg7 arg8 harg8 arg9 harg9 arg10 harg10 arg11 harg11 arg12 harg12 arg13 harg13 hc0 x0 x1 x2 xs0 xs1 xs2 xs3 xs4 xs5 xs6 xs7 = carries xs2 xs3 x1 x2 xs0 8 := by
  funext y
  frame_out
  simp only [k0_pay1, k0_pay2, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, shapeCast_self, carries, carry, sums, ld_chunk x2 0 0 rfl (by decide) inb_S2048x1024_S2048x128_0_0, ld_chunk x2 1 128 rfl (by decide) inb_S2048x1024_S2048x128_0_128, ld_chunk x2 2 256 rfl (by decide) inb_S2048x1024_S2048x128_0_256, ld_chunk x2 3 384 rfl (by decide) inb_S2048x1024_S2048x128_0_384, ld_chunk x2 4 512 rfl (by decide) inb_S2048x1024_S2048x128_0_512, ld_chunk x2 5 640 rfl (by decide) inb_S2048x1024_S2048x128_0_640, ld_chunk x2 6 768 rfl (by decide) inb_S2048x1024_S2048x128_0_768, ld_chunk x2 7 896 rfl (by decide) inb_S2048x1024_S2048x128_0_896]

/-- A point that is not the first of its run writes `block`. -/
theorem out_B (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : ¬cond0_0 i) (x0 : Vec F S2048x8 .f32) (x1 : Vec F S128x256 .f32) (x2 : Vec F S2048x1024 .f32) (xs0 : Vec F S2048x128 .f32) (xs1 : Vec F S2048x128 .f32) (xs2 : Vec F S2048x128 .f32) (xs3 : Vec F S2048x128 .f32) (xs4 : Vec F S2048x128 .f32) (xs5 : Vec F S2048x128 .f32) (xs6 : Vec F S2048x128 .f32) (xs7 : Vec F S2048x128 .f32) :
    out0_B_3 c i arg2 harg2 arg3 harg3 arg4 harg4 arg5 harg5 arg6 harg6 arg7 harg7 arg8 harg8 arg9 harg9 arg10 harg10 arg11 harg11 arg12 harg12 arg13 harg13 hc0 x0 x1 x2 xs0 xs1 xs2 xs3 xs4 xs5 xs6 xs7 = block x1 x2 xs0 xs1 xs2 xs3 xs4 xs5 xs6 xs7 := by
  funext y
  frame_out
  canon_tiles z h
  all_goals first
    | rw [block_eq _ _ _ _ _ _ _ _ _ _ y z 0 h0 (by omega)]
    | rw [block_eq _ _ _ _ _ _ _ _ _ _ y z 1 h0 (by omega)]
    | rw [block_eq _ _ _ _ _ _ _ _ _ _ y z 2 h0 (by omega)]
    | rw [block_eq _ _ _ _ _ _ _ _ _ _ y z 3 h0 (by omega)]
    | rw [block_eq _ _ _ _ _ _ _ _ _ _ y z 4 h0 (by omega)]
    | rw [block_eq _ _ _ _ _ _ _ _ _ _ y z 5 h0 (by omega)]
    | rw [block_eq _ _ _ _ _ _ _ _ _ _ y z 6 h0 (by omega)]
    | rw [block_eq _ _ _ _ _ _ _ _ _ _ y z 7 h0 (by omega)]
  all_goals
    simp only [k0_pay1, k0_pay2, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, shapeCast_self, piece, compress, smooth, carries, carry, sums, ld_chunk x2 0 0 rfl (by decide) inb_S2048x1024_S2048x128_0_0, ld_chunk x2 1 128 rfl (by decide) inb_S2048x1024_S2048x128_0_128, ld_chunk x2 2 256 rfl (by decide) inb_S2048x1024_S2048x128_0_256, ld_chunk x2 3 384 rfl (by decide) inb_S2048x1024_S2048x128_0_384, ld_chunk x2 4 512 rfl (by decide) inb_S2048x1024_S2048x128_0_512, ld_chunk x2 5 640 rfl (by decide) inb_S2048x1024_S2048x128_0_640, ld_chunk x2 6 768 rfl (by decide) inb_S2048x1024_S2048x128_0_768, ld_chunk x2 7 896 rfl (by decide) inb_S2048x1024_S2048x128_0_896]

/-- Column `k` of the row parameters. -/
def col (x0 : Vec F S2048x8 .f32) (k : ℕ) : Vec F S2048x1 .f32 := fun y => x0 (ix2 (y 0) ⟨k % 8, Nat.mod_lt _ (by decide)⟩)

/-- Loading one column of the row parameters reads `col`. -/
theorem ld_col (x0 : Vec F S2048x8 .f32) (k : ℕ) (hk : k < 8)
    (h : ∀ a, (![0, k] : Fin 2 → ℕ) a + (![2048, 1] : Fin 2 → ℕ) a ≤ S2048x8.size a) :
    View.ld x0 (Rect.unit ![0, k] ![2048, 1] h) = col x0 k := by
  funext y
  have h1 : (y 1).val < 1 := (y 1).isLt
  show x0 _ = x0 _
  congr 1
  funext a
  apply Fin.ext
  match a with
  | ⟨0, _⟩ => show 0 + 1 * (y 0).val = (y 0).val; omega
  | ⟨1, _⟩ => show k + 1 * (y 1).val = k % 8; omega

/-- The first column of a block. -/
def first (x : Vec F S2048x1024 .f32) : Vec F S2048x1 .f32 := fun y => x (ix2 (y 0) ⟨0, by decide⟩)

/-- Loading the first column of a block reads `first`. -/
theorem ld_first (x : Vec F S2048x1024 .f32)
    (h : ∀ a, (![0, 0] : Fin 2 → ℕ) a + (![2048, 1] : Fin 2 → ℕ) a ≤ S2048x1024.size a) :
    View.ld x (Rect.unit ![0, 0] ![2048, 1] h) = first x := by
  funext y
  have h1 : (y 1).val < 1 := (y 1).isLt
  show x _ = x _
  congr 1
  funext a
  apply Fin.ext
  match a with
  | ⟨0, _⟩ => show 0 + 1 * (y 0).val = (y 0).val; omega
  | ⟨1, _⟩ => show 0 + 1 * (y 1).val = 0; omega

/-- A block of zeros. -/
def zeros : Vec F S2048x128 .f32 := broadcast S2048x128 (Scalar.ofBits .f32 0x00000000#32)

/-- The powers of the decay, one per lane: `exp (lane * log decay)`. -/
def pFill (x0 : Vec F S2048x8 .f32) : Vec F S2048x128 .f32 :=
  exp (mulf (broadcastTo S2048x128 (sitofp .f32 (iota .tc S1x128 32 [1] iota_S1x128_d1_w32)) broadcasts_S1x128_S2048x128)
    (broadcastTo S2048x128 (log (col x0 1)) broadcasts_S2048x1_S2048x128))

/-- The weight over the powers of the decay. -/
def winvpFill (x0 : Vec F S2048x8 .f32) : Vec F S2048x128 .f32 :=
  divf (broadcastTo S2048x128 (col x0 0) broadcasts_S2048x1_S2048x128) (pFill x0)

/-- The decay over one chunk: `exp (128 * log decay)`. -/
def apFill (x0 : Vec F S2048x8 .f32) : Vec F S2048x128 .f32 :=
  addf (broadcastTo S2048x128 (exp (mulf (broadcast S2048x1 (Scalar.ofBits .f32 0x43000000#32)) (log (col x0 1))))
    broadcasts_S2048x1_S2048x128) zeros

/-- The exponent, negated. -/
def naFill (x0 : Vec F S2048x8 .f32) : Vec F S2048x128 .f32 :=
  addf (broadcastTo S2048x128 (subf (broadcast S2048x1 (Scalar.ofBits .f32 0x00000000#32)) (col x0 2))
    broadcasts_S2048x1_S2048x128) zeros

/-- A row parameter copied across the lanes. -/
def keepFill (x0 : Vec F S2048x8 .f32) (k : ℕ) : Vec F S2048x128 .f32 :=
  addf (broadcastTo S2048x128 (col x0 k) broadcasts_S2048x1_S2048x128) zeros

/-- The carry a run starts from: the decay times the first column. -/
def acFill (x0 : Vec F S2048x8 .f32) (x : Vec F S2048x1024 .f32) : Vec F S2048x128 .f32 :=
  addf (broadcastTo S2048x128 (mulf (col x0 1) (first x)) broadcasts_S2048x1_S2048x128) zeros

/-- The first point of a run leaves in its scratch the powers of the decay. -/
theorem fill1_A (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : cond0_0 i) (x0 : Vec F S2048x8 .f32) (x1 : Vec F S128x256 .f32) (x2 : Vec F S2048x1024 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 = pFill x0 := by
  funext y
  frame_out
  simp only [k0_pay3, k0_pay4, k0_pay5, k0_pay6, k0_pay7, k0_pay8, k0_pay9, k0_pay10, k0_pay11, k0_pay12, k0_pay13, k0_pay14, k0_pay15, shapeCast_self, pFill, winvpFill, apFill, naFill, keepFill, acFill, zeros, ld_col x0 0 (by decide) inb_S2048x8_S2048x1_0_0, ld_col x0 1 (by decide) inb_S2048x8_S2048x1_0_1, ld_col x0 2 (by decide) inb_S2048x8_S2048x1_0_2, ld_col x0 3 (by decide) inb_S2048x8_S2048x1_0_3, ld_col x0 4 (by decide) inb_S2048x8_S2048x1_0_4, ld_col x0 5 (by decide) inb_S2048x8_S2048x1_0_5]

/-- The first point of a run leaves in its scratch the weight over the powers. -/
theorem fill2_A (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : cond0_0 i) (x0 : Vec F S2048x8 .f32) (x1 : Vec F S128x256 .f32) (x2 : Vec F S2048x1024 .f32) :
    sout0_A_2 c i arg2 harg2 arg3 harg3 arg4 harg4 arg5 harg5 arg6 harg6 arg7 harg7 arg8 harg8 arg9 harg9 arg10 harg10 arg11 harg11 arg12 harg12 arg13 harg13 hc0 x0 x1 x2 = winvpFill x0 := by
  funext y
  frame_out
  simp only [k0_pay3, k0_pay4, k0_pay5, k0_pay6, k0_pay7, k0_pay8, k0_pay9, k0_pay10, k0_pay11, k0_pay12, k0_pay13, k0_pay14, k0_pay15, shapeCast_self, pFill, winvpFill, apFill, naFill, keepFill, acFill, zeros, ld_col x0 0 (by decide) inb_S2048x8_S2048x1_0_0, ld_col x0 1 (by decide) inb_S2048x8_S2048x1_0_1, ld_col x0 2 (by decide) inb_S2048x8_S2048x1_0_2, ld_col x0 3 (by decide) inb_S2048x8_S2048x1_0_3, ld_col x0 4 (by decide) inb_S2048x8_S2048x1_0_4, ld_col x0 5 (by decide) inb_S2048x8_S2048x1_0_5]

/-- The first point of a run leaves in its scratch the decay over one chunk. -/
theorem fill3_A (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : cond0_0 i) (x0 : Vec F S2048x8 .f32) (x1 : Vec F S128x256 .f32) (x2 : Vec F S2048x1024 .f32) :
    sout0_A_3 c i arg2 harg2 arg3 harg3 arg4 harg4 arg5 harg5 arg6 harg6 arg7 harg7 arg8 harg8 arg9 harg9 arg10 harg10 arg11 harg11 arg12 harg12 arg13 harg13 hc0 x0 x1 x2 = apFill x0 := by
  funext y
  frame_out
  simp only [k0_pay3, k0_pay4, k0_pay5, k0_pay6, k0_pay7, k0_pay8, k0_pay9, k0_pay10, k0_pay11, k0_pay12, k0_pay13, k0_pay14, k0_pay15, shapeCast_self, pFill, winvpFill, apFill, naFill, keepFill, acFill, zeros, ld_col x0 0 (by decide) inb_S2048x8_S2048x1_0_0, ld_col x0 1 (by decide) inb_S2048x8_S2048x1_0_1, ld_col x0 2 (by decide) inb_S2048x8_S2048x1_0_2, ld_col x0 3 (by decide) inb_S2048x8_S2048x1_0_3, ld_col x0 4 (by decide) inb_S2048x8_S2048x1_0_4, ld_col x0 5 (by decide) inb_S2048x8_S2048x1_0_5]

/-- The first point of a run leaves in its scratch the negated exponent. -/
theorem fill4_A (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : cond0_0 i) (x0 : Vec F S2048x8 .f32) (x1 : Vec F S128x256 .f32) (x2 : Vec F S2048x1024 .f32) :
    sout0_A_4 c i arg2 harg2 arg3 harg3 arg4 harg4 arg5 harg5 arg6 harg6 arg7 harg7 arg8 harg8 arg9 harg9 arg10 harg10 arg11 harg11 arg12 harg12 arg13 harg13 hc0 x0 x1 x2 = naFill x0 := by
  funext y
  frame_out
  simp only [k0_pay3, k0_pay4, k0_pay5, k0_pay6, k0_pay7, k0_pay8, k0_pay9, k0_pay10, k0_pay11, k0_pay12, k0_pay13, k0_pay14, k0_pay15, shapeCast_self, pFill, winvpFill, apFill, naFill, keepFill, acFill, zeros, ld_col x0 0 (by decide) inb_S2048x8_S2048x1_0_0, ld_col x0 1 (by decide) inb_S2048x8_S2048x1_0_1, ld_col x0 2 (by decide) inb_S2048x8_S2048x1_0_2, ld_col x0 3 (by decide) inb_S2048x8_S2048x1_0_3, ld_col x0 4 (by decide) inb_S2048x8_S2048x1_0_4, ld_col x0 5 (by decide) inb_S2048x8_S2048x1_0_5]

/-- The first point of a run leaves in its scratch the inverse root. -/
theorem fill5_A (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : cond0_0 i) (x0 : Vec F S2048x8 .f32) (x1 : Vec F S128x256 .f32) (x2 : Vec F S2048x1024 .f32) :
    sout0_A_5 c i arg2 harg2 arg3 harg3 arg4 harg4 arg5 harg5 arg6 harg6 arg7 harg7 arg8 harg8 arg9 harg9 arg10 harg10 arg11 harg11 arg12 harg12 arg13 harg13 hc0 x0 x1 x2 = keepFill x0 3 := by
  funext y
  frame_out
  simp only [k0_pay3, k0_pay4, k0_pay5, k0_pay6, k0_pay7, k0_pay8, k0_pay9, k0_pay10, k0_pay11, k0_pay12, k0_pay13, k0_pay14, k0_pay15, shapeCast_self, pFill, winvpFill, apFill, naFill, keepFill, acFill, zeros, ld_col x0 0 (by decide) inb_S2048x8_S2048x1_0_0, ld_col x0 1 (by decide) inb_S2048x8_S2048x1_0_1, ld_col x0 2 (by decide) inb_S2048x8_S2048x1_0_2, ld_col x0 3 (by decide) inb_S2048x8_S2048x1_0_3, ld_col x0 4 (by decide) inb_S2048x8_S2048x1_0_4, ld_col x0 5 (by decide) inb_S2048x8_S2048x1_0_5]

/-- The first point of a run leaves in its scratch the offset. -/
theorem fill6_A (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : cond0_0 i) (x0 : Vec F S2048x8 .f32) (x1 : Vec F S128x256 .f32) (x2 : Vec F S2048x1024 .f32) :
    sout0_A_6 c i arg2 harg2 arg3 harg3 arg4 harg4 arg5 harg5 arg6 harg6 arg7 harg7 arg8 harg8 arg9 harg9 arg10 harg10 arg11 harg11 arg12 harg12 arg13 harg13 hc0 x0 x1 x2 = keepFill x0 4 := by
  funext y
  frame_out
  simp only [k0_pay3, k0_pay4, k0_pay5, k0_pay6, k0_pay7, k0_pay8, k0_pay9, k0_pay10, k0_pay11, k0_pay12, k0_pay13, k0_pay14, k0_pay15, shapeCast_self, pFill, winvpFill, apFill, naFill, keepFill, acFill, zeros, ld_col x0 0 (by decide) inb_S2048x8_S2048x1_0_0, ld_col x0 1 (by decide) inb_S2048x8_S2048x1_0_1, ld_col x0 2 (by decide) inb_S2048x8_S2048x1_0_2, ld_col x0 3 (by decide) inb_S2048x8_S2048x1_0_3, ld_col x0 4 (by decide) inb_S2048x8_S2048x1_0_4, ld_col x0 5 (by decide) inb_S2048x8_S2048x1_0_5]

/-- The first point of a run leaves in its scratch the subtracted constant. -/
theorem fill7_A (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : cond0_0 i) (x0 : Vec F S2048x8 .f32) (x1 : Vec F S128x256 .f32) (x2 : Vec F S2048x1024 .f32) :
    sout0_A_7 c i arg2 harg2 arg3 harg3 arg4 harg4 arg5 harg5 arg6 harg6 arg7 harg7 arg8 harg8 arg9 harg9 arg10 harg10 arg11 harg11 arg12 harg12 arg13 harg13 hc0 x0 x1 x2 = keepFill x0 5 := by
  funext y
  frame_out
  simp only [k0_pay3, k0_pay4, k0_pay5, k0_pay6, k0_pay7, k0_pay8, k0_pay9, k0_pay10, k0_pay11, k0_pay12, k0_pay13, k0_pay14, k0_pay15, shapeCast_self, pFill, winvpFill, apFill, naFill, keepFill, acFill, zeros, ld_col x0 0 (by decide) inb_S2048x8_S2048x1_0_0, ld_col x0 1 (by decide) inb_S2048x8_S2048x1_0_1, ld_col x0 2 (by decide) inb_S2048x8_S2048x1_0_2, ld_col x0 3 (by decide) inb_S2048x8_S2048x1_0_3, ld_col x0 4 (by decide) inb_S2048x8_S2048x1_0_4, ld_col x0 5 (by decide) inb_S2048x8_S2048x1_0_5]

/-- The first point of a run leaves the carry after its eight chunks. -/
theorem carry_A (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : cond0_0 i) (x0 : Vec F S2048x8 .f32) (x1 : Vec F S128x256 .f32) (x2 : Vec F S2048x1024 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 = carries (winvpFill x0) (apFill x0) x1 x2 (acFill x0 x2) 8 := by
  funext y
  frame_out
  simp only [k0_pay1, k0_pay2, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay3, k0_pay4, k0_pay5, k0_pay6, k0_pay7, k0_pay8, k0_pay9, k0_pay10, k0_pay11, k0_pay12, k0_pay13, k0_pay14, k0_pay15, shapeCast_self, pFill, winvpFill, apFill, naFill, keepFill, acFill, zeros, carries, carry, sums, ld_col x0 0 (by decide) inb_S2048x8_S2048x1_0_0, ld_col x0 1 (by decide) inb_S2048x8_S2048x1_0_1, ld_col x0 2 (by decide) inb_S2048x8_S2048x1_0_2, ld_col x0 3 (by decide) inb_S2048x8_S2048x1_0_3, ld_col x0 4 (by decide) inb_S2048x8_S2048x1_0_4, ld_col x0 5 (by decide) inb_S2048x8_S2048x1_0_5, ld_chunk x2 0 0 rfl (by decide) inb_S2048x1024_S2048x128_0_0, ld_chunk x2 1 128 rfl (by decide) inb_S2048x1024_S2048x128_0_128, ld_chunk x2 2 256 rfl (by decide) inb_S2048x1024_S2048x128_0_256, ld_chunk x2 3 384 rfl (by decide) inb_S2048x1024_S2048x128_0_384, ld_chunk x2 4 512 rfl (by decide) inb_S2048x1024_S2048x128_0_512, ld_chunk x2 5 640 rfl (by decide) inb_S2048x1024_S2048x128_0_640, ld_chunk x2 6 768 rfl (by decide) inb_S2048x1024_S2048x128_0_768, ld_chunk x2 7 896 rfl (by decide) inb_S2048x1024_S2048x128_0_896, ld_first x2 inb_S2048x1024_S2048x1_0_0]

/-- The first point of a run writes `block`. -/
theorem out_A (c : Dev nD) (i : grid0.Coords) (arg2 : Memref sig .tc .vmem S2048x8 .f32) (harg2 : arg2.IsWhole) (arg3 : Memref sig .tc .vmem S128x256 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (hc0 : cond0_0 i) (x0 : Vec F S2048x8 .f32) (x1 : Vec F S128x256 .f32) (x2 : Vec F S2048x1024 .f32) :
    out0_A_3 c i arg2 harg2 arg3 harg3 arg4 harg4 arg5 harg5 arg6 harg6 arg7 harg7 arg8 harg8 arg9 harg9 arg10 harg10 arg11 harg11 arg12 harg12 arg13 harg13 hc0 x0 x1 x2 = block x1 x2 (acFill x0 x2) (pFill x0) (winvpFill x0) (apFill x0) (naFill x0) (keepFill x0 3) (keepFill x0 4) (keepFill x0 5) := by
  funext y
  frame_out
  canon_tiles z h
  all_goals first
    | rw [block_eq _ _ _ _ _ _ _ _ _ _ y z 0 h0 (by omega)]
    | rw [block_eq _ _ _ _ _ _ _ _ _ _ y z 1 h0 (by omega)]
    | rw [block_eq _ _ _ _ _ _ _ _ _ _ y z 2 h0 (by omega)]
    | rw [block_eq _ _ _ _ _ _ _ _ _ _ y z 3 h0 (by omega)]
    | rw [block_eq _ _ _ _ _ _ _ _ _ _ y z 4 h0 (by omega)]
    | rw [block_eq _ _ _ _ _ _ _ _ _ _ y z 5 h0 (by omega)]
    | rw [block_eq _ _ _ _ _ _ _ _ _ _ y z 6 h0 (by omega)]
    | rw [block_eq _ _ _ _ _ _ _ _ _ _ y z 7 h0 (by omega)]
  all_goals
    simp only [k0_pay1, k0_pay2, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay3, k0_pay4, k0_pay5, k0_pay6, k0_pay7, k0_pay8, k0_pay9, k0_pay10, k0_pay11, k0_pay12, k0_pay13, k0_pay14, k0_pay15, shapeCast_self, pFill, winvpFill, apFill, naFill, keepFill, acFill, zeros, piece, compress, smooth, carries, carry, sums, ld_col x0 0 (by decide) inb_S2048x8_S2048x1_0_0, ld_col x0 1 (by decide) inb_S2048x8_S2048x1_0_1, ld_col x0 2 (by decide) inb_S2048x8_S2048x1_0_2, ld_col x0 3 (by decide) inb_S2048x8_S2048x1_0_3, ld_col x0 4 (by decide) inb_S2048x8_S2048x1_0_4, ld_col x0 5 (by decide) inb_S2048x8_S2048x1_0_5, ld_chunk x2 0 0 rfl (by decide) inb_S2048x1024_S2048x128_0_0, ld_chunk x2 1 128 rfl (by decide) inb_S2048x1024_S2048x128_0_128, ld_chunk x2 2 256 rfl (by decide) inb_S2048x1024_S2048x128_0_256, ld_chunk x2 3 384 rfl (by decide) inb_S2048x1024_S2048x128_0_384, ld_chunk x2 4 512 rfl (by decide) inb_S2048x1024_S2048x128_0_512, ld_chunk x2 5 640 rfl (by decide) inb_S2048x1024_S2048x128_0_640, ld_chunk x2 6 768 rfl (by decide) inb_S2048x1024_S2048x128_0_768, ld_chunk x2 7 896 rfl (by decide) inb_S2048x1024_S2048x128_0_896, ld_first x2 inb_S2048x1024_S2048x1_0_0]

end Cert.KernelIdeal.Chunk

end
-- ==== Proof.Smoothing.lean ====
/-
  The mathematics of the two programs, free of either: the exponential smoothing of a sequence of energies as a
  recursion, its closed form over a stretch of consecutive energies, and the compression of one energy by its smoothed
  energy written with logarithms to base two.
-/
module

public import Idealize.ShloMosaic.PureOps.Ideal.Laws
public import Idealize.ShloMosaic.Lib.IdealHost
public import Mathlib.Analysis.SpecialFunctions.Pow.Real

@[expose] public section

noncomputable section

open Idealize.ShloMosaic
open scoped BigOperators

namespace Cert.Smoothing

/-! ## The recursion -/

/-- The smoothed energies: the first is the first energy, every other one the weighted mean of the energy and the smoothed
    energy before it. -/
def ema (w : ℝ) (x : ℕ → ℝ) : ℕ → ℝ
  | 0 => x 0
  | t + 1 => w * x (t + 1) + (1 - w) * ema w x t

/-- The smoothed energy before time `t`; before the first, the first energy. -/
def before (w : ℝ) (x : ℕ → ℝ) : ℕ → ℝ
  | 0 => x 0
  | t + 1 => ema w x t

/-- Every smoothed energy is the weighted mean of the energy and the smoothed energy before it, the first included. -/
theorem ema_eq (w : ℝ) (x : ℕ → ℝ) (t : ℕ) : ema w x t = w * x t + (1 - w) * before w x t := by
  cases t with
  | zero => simp only [ema, before]; ring
  | succ t => rfl

/-- Energies that are not negative have smoothed energies that are not. -/
theorem ema_nonneg {w : ℝ} {x : ℕ → ℝ} (h0 : 0 ≤ w) (h1 : w ≤ 1) (hx : ∀ t, 0 ≤ x t) (t : ℕ) : 0 ≤ ema w x t := by
  induction t with
  | zero => exact hx 0
  | succ t ih => exact add_nonneg (mul_nonneg h0 (hx _)) (mul_nonneg (by linarith) ih)

/-- The weighted energies of the `l` times from `n` on, each over the power of the decay its lane has. -/
def part (w : ℝ) (x : ℕ → ℝ) (n l : ℕ) : ℝ := ∑ i ∈ Finset.range l, x (n + i) * (w / (1 - w) ^ i)

/-- The closed form: lane `l` after time `n` is the power of the decay times the weighted energies up to it and the carry. -/
theorem ema_closed {w : ℝ} (hw : 1 - w ≠ 0) (x : ℕ → ℝ) (n l : ℕ) :
    ema w x (n + l) = (1 - w) ^ l * (part w x n (l + 1) + (1 - w) * before w x n) := by
  induction l with
  | zero => rw [Nat.add_zero, ema_eq, part, Finset.sum_range_one, Nat.add_zero, pow_zero, div_one]; ring
  | succ l ih =>
    have hp : (1 - w) ^ (l + 1) ≠ 0 := pow_ne_zero _ hw
    rw [show n + (l + 1) = n + l + 1 from rfl, ema, ih, part, part, Finset.sum_range_succ _ (l + 1), ← Nat.add_assoc n l 1]
    have e : (1 - w) ^ (l + 1) * (x (n + l + 1) * (w / (1 - w) ^ (l + 1))) = w * x (n + l + 1) := by
      field_simp
    rw [add_right_comm (Finset.sum _ _), mul_add ((1 - w) ^ (l + 1)) (_ + _), e, pow_succ]
    ring

/-- The carry after `l + 1` times, from the carry before them. -/
theorem before_closed {w : ℝ} (hw : 1 - w ≠ 0) (x : ℕ → ℝ) (n l : ℕ) :
    (1 - w) * before w x (n + (l + 1)) = (1 - w) ^ (l + 1) * (part w x n (l + 1) + (1 - w) * before w x n) := by
  show (1 - w) * ema w x (n + l) = _
  rw [ema_closed hw, pow_succ]
  ring

/-- The smoothed energies as a program computes them, on extended reals. -/
def smoothed (w : EReal) (x : ℕ → EReal) : ℕ → EReal
  | 0 => x 0
  | t + 1 => w * x (t + 1) + (1 - w) * smoothed w x t

/-- On real energies and a real weight they are the real ones. -/
theorem smoothed_coe (w : ℝ) (x : ℕ → ℝ) (t : ℕ) : smoothed (w : EReal) (fun n => (x n : EReal)) t = (ema w x t : EReal) := by
  induction t with
  | zero => rfl
  | succ t ih =>
    show (w : EReal) * (x (t + 1) : EReal) + (1 - (w : EReal)) * smoothed _ _ t = _
    rw [ih, ema, EReal.coe_add, EReal.coe_mul, EReal.coe_mul, EReal.coe_sub, EReal.coe_one]

/-! ## The compression -/

/-- The reciprocal of the natural logarithm of two. -/
def log2e : ℝ := (Real.log 2)⁻¹

/-- A power of two whose exponent is a multiple of a logarithm to base two is a power of the logarithm's argument. -/
theorem rpow_two_log {q : ℝ} (hq : 0 < q) (c : ℝ) : Real.rpow 2 (c * (Real.log q * log2e)) = q ^ c := by
  have h2 : Real.log 2 ≠ 0 := (Real.log_pos (by norm_num)).ne'
  show (2 : ℝ) ^ (c * (Real.log q * log2e)) = q ^ c
  rw [Real.rpow_def_of_pos (by norm_num : (0 : ℝ) < 2), Real.rpow_def_of_pos hq]
  congr 1
  unfold log2e
  field_simp

/-- The root `exp2 (c * log2 q)` is the power `q ^ c`, for every `q` from zero to infinity. -/
theorem exp2_log2 {q : EReal} (hq : 0 ≤ q) {c : ℝ} (hc : 0 ≤ c) :
    Ideal.exp2 ((c : EReal) * (Ideal.log q * (log2e : EReal))) = Ideal.pow q (c : EReal) := by
  have hl : 0 < log2e := inv_pos.mpr (Real.log_pos (by norm_num))
  induction q with
  | bot => simp at hq
  | top =>
    rw [Ideal.log_top, EReal.top_mul_coe_of_pos hl, Ideal.pow_top]
    rcases hc.eq_or_lt with rfl | hc'
    · simp only [EReal.coe_zero, zero_mul, lt_irrefl, if_false, if_true]
      rw [← EReal.coe_zero, Ideal.exp2_coe]
      simp
    · rw [EReal.coe_mul_top_of_pos hc', if_pos (by exact_mod_cast hc'), Ideal.exp2_top]
  | coe q =>
    have hq' : 0 ≤ q := by exact_mod_cast hq
    rw [Ideal.pow_coe_coe, Ideal.log_coe]
    rcases hq'.eq_or_lt with rfl | hq0
    · rw [if_pos le_rfl, EReal.bot_mul_coe_of_pos hl]
      rcases hc.eq_or_lt with rfl | hc'
      · rw [EReal.coe_zero, zero_mul, ← EReal.coe_zero, Ideal.exp2_coe]
        simp
      · rw [EReal.coe_mul_bot_of_pos hc', Ideal.exp2_bot]
        show (0 : EReal) = (((0 : ℝ) ^ c : ℝ) : EReal)
        rw [Real.zero_rpow hc'.ne', EReal.coe_zero]
    · rw [if_neg hq0.not_ge, ← EReal.coe_mul, ← EReal.coe_mul, Ideal.exp2_coe, rpow_two_log hq0]
      rfl

/-- The kernel's gain `exp2 (-a * log2 e)` times an energy is the energy over the power `e ^ a`, for a positive `e`. -/
theorem gain {e : ℝ} (he : 0 < e) (x a : ℝ) :
    (x : EReal) * Ideal.exp2 (((-a : ℝ) : EReal) * (Ideal.log (e : EReal) * (log2e : EReal)))
      = ((x * e ^ (-a) : ℝ) : EReal)
    ∧ Ideal.div (x : EReal) (Ideal.pow (e : EReal) (a : EReal)) = ((x * e ^ (-a) : ℝ) : EReal) := by
  constructor
  · rw [Ideal.log_coe, if_neg he.not_ge, ← EReal.coe_mul, ← EReal.coe_mul, Ideal.exp2_coe, rpow_two_log he, ← EReal.coe_mul]
  · have hp : e ^ a ≠ 0 := (Real.rpow_pos_of_pos he a).ne'
    rw [Ideal.pow_coe_coe]
    show Ideal.div (x : EReal) ((e ^ a : ℝ) : EReal) = _
    rw [Ideal.div_coe hp, ← EReal.coe_mul, Real.rpow_neg he.le, one_div]

/-- The compression of an energy `x` with smoothed energy `e`: the kernel's, on logarithms to base two, is the reference's. -/
theorem compress_eq {x e eps a c : ℝ} {d : EReal} (hx : 0 ≤ x) (he : 0 ≤ e) (heps : 0 < eps) (hc : 0 ≤ c) (hd : 0 ≤ d) :
    Ideal.exp2 ((c : EReal) * (Ideal.log ((x : EReal)
        * Ideal.exp2 (((-a : ℝ) : EReal) * (Ideal.log ((e : EReal) + (eps : EReal)) * (log2e : EReal))) + d) * (log2e : EReal)))
      = Ideal.pow (Ideal.div (x : EReal) (Ideal.pow ((eps : EReal) + (e : EReal)) (a : EReal)) + d) (c : EReal) := by
  have hp : 0 < e + eps := by linarith
  rw [add_comm (eps : EReal), ← EReal.coe_add, (gain hp x a).1, (gain hp x a).2]
  refine exp2_log2 (add_nonneg ?_ hd) hc
  exact_mod_cast mul_nonneg hx (Real.rpow_pos_of_pos hp _).le

/-! ## The constants' values -/

/-- The constant the smoothed energies are raised by is a positive real. -/
theorem eps_pos : ∃ e : ℝ, 0 < e ∧ Ideal.ofBits .f32 0x358637BD#32 = (e : EReal) := by
  refine ⟨8796093 * 2 ^ (-43 : ℤ), by norm_num, ?_⟩
  simp [Ideal.ofBits, Ideal.ieee, -EReal.coe_mul]

/-- The largest weight is a real between zero and one, short of one. -/
theorem wmax : ∃ e : ℝ, 0 < e ∧ e < 1 ∧ Ideal.ofBits .f32 0x3E4CCCCD#32 = (e : EReal) := by
  refine ⟨13421773 * 2 ^ (-26 : ℤ), by norm_num, by norm_num, ?_⟩
  simp [Ideal.ofBits, Ideal.ieee, -EReal.coe_mul]

/-- The length of a chunk. -/
theorem chunk_length : Ideal.ofBits .f32 0x43000000#32 = ((128 : ℝ) : EReal) := by
  simp [Ideal.ofBits, Ideal.ieee, -EReal.coe_mul]
  norm_num

/-- The largest float is infinity. -/
theorem ofBits_inf : Ideal.ofBits .f32 0x7F800000#32 = ⊤ := by
  simp [Ideal.ofBits, Ideal.ieee]

/-- The least float is minus infinity. -/
theorem ofBits_ninf : Ideal.ofBits .f32 0xFF800000#32 = ⊥ := by
  simp [Ideal.ofBits, Ideal.ieee]

end Cert.Smoothing

end
-- ==== Proof.Lanes.lean ====
/-
  What a chunk holds on the extended reals, lane by lane: with the row's parameters real numbers and the energies of the
  row a real sequence, the smoothed columns are the smoothed energies and the carry is the decayed last one.
-/
module

public import proofs.«01_k».proof.Proof.Chunk
public import proofs.«01_k».proof.Proof.Smoothing

@[expose] public section

set_option maxRecDepth 16384

noncomputable section

open Idealize.ShloMosaic

namespace Cert.KernelIdeal.Lanes

open Cert.KernelIdeal Cert.KernelIdeal.Gen Cert.KernelIdeal.Chunk Cert.Smoothing

/-- The table of ones that sums: ones on and above the diagonal in the left half, ones throughout the right half. -/
def Table (u : Vec Ideal S128x256 .f32) : Prop :=
  ∀ (k : Fin 128) (j : Fin 256), u (ix2 k j) = if k.val ≤ j.val then 1 else 0

/-- The parameters of row `r`: the weight, the decay, the exponent, the inverse root, the offset, the constant. -/
structure Params (x0 : Vec Ideal S2048x8 .f32) (r : Fin 2048) (w a c : ℝ) (d dr : EReal) : Prop where
  weight : x0 (ix2 r 0) = (w : EReal)
  decay : x0 (ix2 r 1) = ((1 - w : ℝ) : EReal)
  expo : x0 (ix2 r 2) = (a : EReal)
  inv : x0 (ix2 r 3) = (c : EReal)
  delta : x0 (ix2 r 4) = d
  const : x0 (ix2 r 5) = dr

section fills

variable {x0 : Vec Ideal S2048x8 .f32} {r : Fin 2048} {w a c : ℝ} {d dr : EReal}

/-- The powers of the decay. -/
theorem pFill_apply (h : Params x0 r w a c d dr) (hw : w < 1) (l : Fin 128) :
    pFill x0 (ix2 r l) = (((1 - w) ^ l.val : ℝ) : EReal) := by
  unfold pFill col
  pointwise
  have h0 : 0 < 1 - w := by linarith
  rw [h.decay, Ideal.log_coe, if_neg (not_le.mpr h0)]
  show Ideal.exp ((((BitVec.ofNat 32 l.val).toInt : ℝ) : EReal) * _) = _
  have e : (BitVec.ofNat 32 l.val).toInt = l.val := by
    rw [BitVec.toInt_eq_toNat_cond, BitVec.toNat_ofNat]; omega
  rw [e, ← EReal.coe_mul, Ideal.exp_coe, Int.cast_natCast, Real.exp_nat_mul, Real.exp_log h0]

/-- The weight over the powers of the decay. -/
theorem winvpFill_apply (h : Params x0 r w a c d dr) (hw : w < 1) (l : Fin 128) :
    winvpFill x0 (ix2 r l) = ((w / (1 - w) ^ l.val : ℝ) : EReal) := by
  unfold winvpFill col
  have e := pFill_apply h hw l
  generalize pFill x0 = p at e
  pointwise
  have h0 : 0 < (1 - w) ^ l.val := pow_pos (by linarith) _
  rw [h.weight, e, Ideal.div_coe h0.ne', ← EReal.coe_mul]
  congr 1
  ring

/-- The decay over one chunk. -/
theorem apFill_apply (h : Params x0 r w a c d dr) (hw : w < 1) (l : Fin 128) :
    apFill x0 (ix2 r l) = (((1 - w) ^ 128 : ℝ) : EReal) := by
  unfold apFill col zeros
  pointwise
  have h0 : 0 < 1 - w := by linarith
  rw [h.decay, Ideal.log_coe, if_neg (not_le.mpr h0), chunk_length, ← EReal.coe_mul, Ideal.exp_coe]
  have e := Real.exp_nat_mul (Real.log (1 - w)) 128
  rw [Real.exp_log h0] at e
  rw [← e]
  norm_num

/-- The exponent, negated. -/
theorem naFill_apply (h : Params x0 r w a c d dr) (l : Fin 128) : naFill x0 (ix2 r l) = ((-a : ℝ) : EReal) := by
  unfold naFill col zeros
  pointwise
  rw [h.expo, zero_sub, EReal.coe_neg]

/-- A parameter copied across the lanes. -/
theorem keepFill_apply (x0 : Vec Ideal S2048x8 .f32) (r : Fin 2048) (k : Fin 8) (l : Fin 128) :
    keepFill x0 k.val (ix2 r l) = x0 (ix2 r k) := by
  unfold keepFill col zeros
  pointwise
  exact congrArg (fun k => x0 (ix2 r k)) (Fin.ext (Nat.mod_eq_of_lt k.isLt))

/-- The carry a run starts from: the decayed first energy. -/
theorem acFill_apply (h : Params x0 r w a c d dr) (x : Vec Ideal S2048x1024 .f32) (e : ℝ) (he : x (ix2 r 0) = (e : EReal))
    (l : Fin 128) : acFill x0 x (ix2 r l) = (((1 - w) * e : ℝ) : EReal) := by
  unfold acFill col first zeros
  pointwise
  rw [h.decay, he, EReal.coe_mul]

end fills

/-- A sum of reals on the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The product with the table: lane `j` of the left half sums the lanes up to it, the right half all of them. -/
theorem sums_apply {winvp xs : Vec Ideal S2048x128 .f32} {u : Vec Ideal S128x256 .f32} (hu : Table u) (r : Fin 2048)
    (w : ℝ) (e : ℕ → ℝ) (n : ℕ) (hx : ∀ l : Fin 128, xs (ix2 r l) = (e (n + l.val) : EReal))
    (hp : ∀ l : Fin 128, winvp (ix2 r l) = ((w / (1 - w) ^ l.val : ℝ) : EReal)) (j : Fin 256) :
    sums winvp u xs (ix2 r j) = (part w e n (min (j.val + 1) 128) : EReal) := by
  unfold sums
  pointwise
  have e1 : ∀ k : Fin 128, xs (ix2 r k) * winvp (ix2 r k) * u (ix2 k j)
      = ((if k.val ≤ j.val then e (n + k.val) * (w / (1 - w) ^ k.val) else 0 : ℝ) : EReal) := by
    intro k
    rw [hx, hp, hu k j, ← EReal.coe_mul]
    split <;> simp
  rw [Finset.sum_congr rfl fun k _ => e1 k, ← coe_sum,
    Fin.sum_univ_eq_sum_range (fun k => if k ≤ j.val then e (n + k) * (w / (1 - w) ^ k) else 0) 128]
  unfold part
  congr 1
  rw [← Finset.sum_filter]
  refine Finset.sum_congr (Finset.ext fun k => ?_) fun _ _ => rfl
  simp only [Finset.mem_filter, Finset.mem_range]
  omega

/-! ## A chunk -/

section chunks

variable {p winvp ap ac xs : Vec Ideal S2048x128 .f32} {u : Vec Ideal S128x256 .f32} {r : Fin 2048} {w : ℝ} {e : ℕ → ℝ}
  {n : ℕ}

/-- The carry after a chunk is the decayed smoothed energy of the chunk's last time. -/
theorem carry_apply (hu : Table u) (hw : w < 1) (hx : ∀ l : Fin 128, xs (ix2 r l) = (e (n + l.val) : EReal))
    (hp : ∀ l : Fin 128, winvp (ix2 r l) = ((w / (1 - w) ^ l.val : ℝ) : EReal))
    (hap : ∀ l : Fin 128, ap (ix2 r l) = (((1 - w) ^ 128 : ℝ) : EReal))
    (hac : ∀ l : Fin 128, ac (ix2 r l) = (((1 - w) * before w e n : ℝ) : EReal)) (l : Fin 128) :
    carry winvp ap u ac xs (ix2 r l) = (((1 - w) * before w e (n + 128) : ℝ) : EReal) := by
  have hs := sums_apply hu r w e n hx hp ⟨128 + l.val, by omega⟩
  unfold carry
  generalize sums winvp u xs = s at hs
  pointwise
  have hm : min (128 + l.val + 1) 128 = 127 + 1 := by omega
  have hb := before_closed (x := e) (w := w) (by linarith) n 127
  simp only [hm] at hs
  rw [hap, hs, hac, ← EReal.coe_add, ← EReal.coe_mul, hb]

/-- The smoothed columns of a chunk are the smoothed energies of its times. -/
theorem smooth_apply (hu : Table u) (hw : w < 1) (hx : ∀ l : Fin 128, xs (ix2 r l) = (e (n + l.val) : EReal))
    (hpw : ∀ l : Fin 128, p (ix2 r l) = (((1 - w) ^ l.val : ℝ) : EReal))
    (hp : ∀ l : Fin 128, winvp (ix2 r l) = ((w / (1 - w) ^ l.val : ℝ) : EReal))
    (hac : ∀ l : Fin 128, ac (ix2 r l) = (((1 - w) * before w e n : ℝ) : EReal)) (l : Fin 128) :
    smooth p winvp u ac xs (ix2 r l) = (ema w e (n + l.val) : EReal) := by
  have hs := sums_apply hu r w e n hx hp ⟨l.val, by omega⟩
  unfold smooth
  generalize sums winvp u xs = s at hs
  pointwise
  have hm : min (l.val + 1) 128 = l.val + 1 := by omega
  simp only [hm] at hs
  rw [hpw, hs, hac, ← EReal.coe_add, ← EReal.coe_mul, ema_closed (by linarith)]

end chunks

/-! ## A point -/

/-- A block of a row: the energies of 1024 consecutive times, from time `n` on. -/
def Holds (x : Vec Ideal S2048x1024 .f32) (r : Fin 2048) (e : ℕ → ℝ) (n : ℕ) : Prop :=
  ∀ q : Fin 1024, x (ix2 r q) = (e (n + q.val) : EReal)

/-- What a row's scratch holds: the constants of the row's parameters. -/
structure Consts (r : Fin 2048) (w a c : ℝ) (d dr : EReal) (p winvp ap na invr delta cst : Vec Ideal S2048x128 .f32) : Prop where
  p : ∀ l : Fin 128, p (ix2 r l) = (((1 - w) ^ l.val : ℝ) : EReal)
  winvp : ∀ l : Fin 128, winvp (ix2 r l) = ((w / (1 - w) ^ l.val : ℝ) : EReal)
  ap : ∀ l : Fin 128, ap (ix2 r l) = (((1 - w) ^ 128 : ℝ) : EReal)
  na : ∀ l : Fin 128, na (ix2 r l) = ((-a : ℝ) : EReal)
  invr : ∀ l : Fin 128, invr (ix2 r l) = (c : EReal)
  delta : ∀ l : Fin 128, delta (ix2 r l) = d
  cst : ∀ l : Fin 128, cst (ix2 r l) = dr

/-- The first point of a run fills the scratch with them. -/
theorem consts_fill {x0 : Vec Ideal S2048x8 .f32} {r : Fin 2048} {w a c : ℝ} {d dr : EReal} (h : Params x0 r w a c d dr)
    (hw : w < 1) : Consts r w a c d dr (pFill x0) (winvpFill x0) (apFill x0) (naFill x0) (keepFill x0 3) (keepFill x0 4)
      (keepFill x0 5) where
  p := pFill_apply h hw
  winvp := winvpFill_apply h hw
  ap := apFill_apply h hw
  na := naFill_apply h
  invr l := (keepFill_apply x0 r 3 l).trans h.inv
  delta l := (keepFill_apply x0 r 4 l).trans h.delta
  cst l := (keepFill_apply x0 r 5 l).trans h.const

section points

variable {x : Vec Ideal S2048x1024 .f32} {u : Vec Ideal S128x256 .f32} {r : Fin 2048} {w a c : ℝ} {d dr : EReal} {e : ℕ → ℝ}
  {n : ℕ} {ac p winvp ap na invr delta cst : Vec Ideal S2048x128 .f32}

/-- A chunk of a block, lane by lane. -/
theorem chunk_apply (hx : Holds x r e n) (j : ℕ) (hj : j < 8) (l : Fin 128) :
    chunk x j (ix2 r l) = (e (n + 128 * j + l.val) : EReal) := by
  have h : (128 * j + l.val) % 1024 = 128 * j + l.val := Nat.mod_eq_of_lt (by omega)
  refine (hx ⟨(128 * j + l.val) % 1024, Nat.mod_lt _ (by decide)⟩).trans ?_
  show ((e (n + (128 * j + l.val) % 1024) : ℝ) : EReal) = _
  rw [h, Nat.add_assoc]

/-- The carry before every chunk of a point, and after its last. -/
theorem carries_apply (hu : Table u) (hw : w < 1) (hx : Holds x r e n) (hc : Consts r w a c d dr p winvp ap na invr delta cst)
    (hac : ∀ l : Fin 128, ac (ix2 r l) = (((1 - w) * before w e n : ℝ) : EReal)) (j : ℕ) (hj : j ≤ 8) (l : Fin 128) :
    carries winvp ap u x ac j (ix2 r l) = (((1 - w) * before w e (n + 128 * j) : ℝ) : EReal) := by
  induction j generalizing l with
  | zero => exact hac l
  | succ j ih =>
    have h := carry_apply (n := n + 128 * j) hu hw (chunk_apply hx j (by omega)) hc.winvp hc.ap (ih (by omega)) l
    rw [Nat.mul_succ, ← Nat.add_assoc]
    exact h

/-- What a point writes: every energy compressed by its smoothed energy. -/
theorem block_apply (hu : Table u) (h0 : 0 ≤ w) (hw : w < 1) (hc0 : 0 ≤ c) (hd : 0 ≤ d) (he : ∀ t, 0 ≤ e t)
    (hx : Holds x r e n) (hc : Consts r w a c d dr p winvp ap na invr delta cst)
    (hac : ∀ l : Fin 128, ac (ix2 r l) = (((1 - w) * before w e n : ℝ) : EReal)) (q : Fin 1024) :
    block u x ac p winvp ap na invr delta cst (ix2 r q)
      = Ideal.pow (Ideal.div (e (n + q.val) : EReal)
          (Ideal.pow (Ideal.ofBits .f32 0x358637BD#32 + (ema w e (n + q.val) : EReal)) (a : EReal)) + d) (c : EReal) - dr := by
  have hq := q.isLt
  have hn : n + 128 * (q.val / 128) + q.val % 128 = n + q.val := by omega
  obtain ⟨eps, heps, hE⟩ := eps_pos
  have hs := smooth_apply (n := n + 128 * (q.val / 128)) hu hw (chunk_apply hx (q.val / 128) (by omega)) hc.p hc.winvp
    (carries_apply hu hw hx hc hac (q.val / 128) (by omega)) ⟨q.val % 128, by omega⟩
  have hk := chunk_apply hx (q.val / 128) (by omega) ⟨q.val % 128, by omega⟩
  have hna := hc.na ⟨q.val % 128, by omega⟩
  have hin := hc.invr ⟨q.val % 128, by omega⟩
  have hde := hc.delta ⟨q.val % 128, by omega⟩
  have hcs := hc.cst ⟨q.val % 128, by omega⟩
  simp only [hn] at hs hk
  rw [hE, ← compress_eq (he _) (ema_nonneg h0 hw.le he _) heps hc0 hd]
  show Chunk.piece u x ac p winvp ap na invr delta cst (q.val / 128) (ix2 r ⟨q.val % 128, _⟩) = _
  unfold Chunk.piece compress
  generalize smooth p winvp u (carries winvp ap u x ac (q.val / 128)) (chunk x (q.val / 128)) = sm at hs
  generalize chunk x (q.val / 128) = ch at hk
  pointwise
  have hl : Named.named (F := Ideal) κ "log2e" (φ := .f32) 0x3FB8AA3B#32 = (log2e : EReal) :=
    IdealRules.named_const.ideal_named_scalar _ _ _ _ rfl
  rw [hin, hk, hna, hs, hde, hcs, hl, hE]
  rfl

end points

end Cert.KernelIdeal.Lanes
-- ==== Proof.Inputs.lean ====
/-
  What the precondition says of the arguments, and the parameters both programs derive from them: the weight, the
  exponent and the inverse root of a channel are real numbers.
-/
module

public import proofs.«01_k».proof.Proof.Gen.Pre_pre
public import proofs.«01_k».proof.Proof.Smoothing
public import Idealize.ShloMosaic.Lib.ReduceAll
public import Idealize.ShloMosaic.Lib.Pointwise.Index

@[expose] public section

set_option maxRecDepth 16384

noncomputable section

open Idealize.ShloMosaic

namespace Cert.Inputs

open Cert.Pre_pre

/-- The smoothing weight of a channel: the parameter clipped to the range from zero to a fifth. -/
def weight (v : EReal) : EReal := min (Ideal.ofBits .f32 0x3E4CCCCD#32) (max 0 v)

/-- The exponent of a channel: the parameter, at most one. -/
def expo (v : EReal) : EReal := min v 1

/-- The inverse root of a channel: one over the parameter, which is taken at least one. -/
def inv (v : EReal) : EReal := Ideal.div 1 (max v 1)

/-- The weight is a real number from zero to below one. -/
theorem weight_real (v : EReal) : ∃ w : ℝ, 0 ≤ w ∧ w < 1 ∧ weight v = (w : EReal) := by
  obtain ⟨e, he, he1, heq⟩ := Smoothing.wmax
  have h0 : 0 ≤ weight v := by
    unfold weight; rw [heq]; exact le_min (by exact_mod_cast he.le) (le_max_left _ _)
  have h1 : weight v ≤ (e : EReal) := by
    unfold weight; rw [heq]; exact min_le_left _ _
  have hb : weight v ≠ ⊥ := fun h => by rw [h] at h0; simp at h0
  have ht : weight v ≠ ⊤ := fun h => by rw [h] at h1; simp at h1
  refine ⟨(weight v).toReal, EReal.toReal_nonneg h0, ?_, (EReal.coe_toReal ht hb).symm⟩
  rw [← EReal.coe_toReal ht hb] at h1
  exact lt_of_le_of_lt (by exact_mod_cast h1) he1

/-- The exponent is a real number, for a parameter above minus infinity. -/
theorem expo_real {v : EReal} (h : ⊥ < v) : ∃ a : ℝ, expo v = (a : EReal) := by
  have hb : expo v ≠ ⊥ := (lt_min h (EReal.bot_lt_coe 1)).ne'
  have ht : expo v ≠ ⊤ := fun e => by
    have : expo v ≤ 1 := min_le_right _ _
    rw [e] at this
    exact absurd this (by decide)
  exact ⟨_, (EReal.coe_toReal ht hb).symm⟩

/-- The inverse root is a real number and not negative. -/
theorem inv_real (v : EReal) : ∃ c : ℝ, 0 ≤ c ∧ inv v = (c : EReal) := by
  unfold inv
  have h1 : (1 : EReal) ≤ max v 1 := le_max_right _ _
  generalize max v 1 = r at h1
  induction r with
  | bot => exact absurd h1 (by decide)
  | top => exact ⟨0, le_rfl, by simp [Ideal.div]⟩
  | coe r =>
    have hr : (1 : ℝ) ≤ r := by exact_mod_cast h1
    refine ⟨1 / r, by positivity, ?_⟩
    rw [Ideal.div_coe (by linarith : r ≠ 0), one_mul]

/-- What the precondition says: the energies are real and not negative, the exponents above minus infinity, the offsets not
    negative. -/
theorem of_pre (X : FVec Ideal S32x1x128x8192 .f32) (A D R W : FVec Ideal S128 .f32) (h : fn (F := Ideal) X A D R W = fun _ => 1#1) :
    (∀ i, (0 : EReal) ≤ X i) ∧ (∀ i, (X i : EReal) < ⊤) ∧ (∀ i, (⊥ : EReal) < A i) ∧ (∀ i, (0 : EReal) ≤ D i) := by
  have one (p : Bool) : (BitVec.ofBool p = 1#1) ↔ p = true := by cases p <;> decide
  haveI : Subsingleton S_.Idx := ⟨fun a b => funext fun k => k.elim0⟩
  have e := congrFun h (fun a => a.elim0)
  simp only [fn, andi] at e
  obtain ⟨e, e4⟩ := IntOp.andi_eq_one.1 e
  obtain ⟨e, e3⟩ := IntOp.andi_eq_one.1 e
  obtain ⟨e1, e2⟩ := IntOp.andi_eq_one.1 e
  refine ⟨fun i => ?_, fun i => ?_, fun i => ?_, fun i => ?_⟩
  · have := Host.reduce_andi_all _ _ _ _ _ e1 i
    change Ideal.cmp .oge (X i) (Ideal.ofBits .f32 0x00000000#32) = 1#1 at this
    rw [Ideal.ofBits_zero_f32, Ideal.cmp, one, decide_eq_true_eq] at this
    exact this
  · have := Host.reduce_andi_all _ _ _ _ _ e2 i
    change Ideal.cmp .olt (X i) (Ideal.ofBits .f32 0x7F800000#32) = 1#1 at this
    rw [Smoothing.ofBits_inf, Ideal.cmp, one, decide_eq_true_eq] at this
    exact this
  · have := Host.reduce_andi_all _ _ _ _ _ e3 i
    change Ideal.cmp .ogt (A i) (Ideal.ofBits .f32 0xFF800000#32) = 1#1 at this
    rw [Smoothing.ofBits_ninf, Ideal.cmp, one, decide_eq_true_eq] at this
    exact this
  · have := Host.reduce_andi_all _ _ _ _ _ e4 i
    change Ideal.cmp .oge (D i) (Ideal.ofBits .f32 0x00000000#32) = 1#1 at this
    rw [Ideal.ofBits_zero_f32, Ideal.cmp, one, decide_eq_true_eq] at this
    exact this

/-- The energies of a row, one per time. -/
def row (X : FVec Ideal S32x1x128x8192 .f32) (b : Fin 32) (c : Fin 128) (t : ℕ) : EReal :=
  X (ix4 b (0 : Fin 1) c (⟨t % 8192, Nat.mod_lt _ (by decide)⟩ : Fin 8192))

/-- The operation's value for one energy: the energy at time `t` of row `b`, channel `ch`, compressed. -/
def value (X : FVec Ideal S32x1x128x8192 .f32) (A D R W : FVec Ideal S128 .f32) (b : Fin 32) (ch : Fin 128) (t : ℕ) : EReal :=
  Ideal.pow (Ideal.div (row X b ch t)
      (Ideal.pow (Ideal.ofBits .f32 0x358637BD#32 + Smoothing.smoothed (weight (W (ix1 ch))) (row X b ch) t) (expo (A (ix1 ch))))
    + D (ix1 ch)) (inv (R (ix1 ch))) - Ideal.pow (D (ix1 ch)) (inv (R (ix1 ch)))

end Cert.Inputs

end
-- ==== Proof.Operands.lean ====
/-
  What the kernel's host operations hand to the grid: the energies as rows, the parameters of every row, and the table of
  ones that sums.
-/
module

public import proofs.«01_k».proof.Proof.Lanes
public import proofs.«01_k».proof.Proof.Inputs
public import Idealize.ShloMosaic.Lib.StableHlo.RunLoop

@[expose] public section

set_option maxRecDepth 16384

noncomputable section

open Idealize.ShloMosaic Idealize.ShloMosaic.TcCoe Idealize.ShloMosaic.StableHlo

namespace Cert.KernelIdeal.Operands

open Cert.KernelIdeal Cert.KernelIdeal.Gen Cert.Inputs

/-- The contents of the program's buffers. -/
abbrev Vals := Valuation τ sig (Elt Ideal)

/-! ## The stretches of host operations -/

/-- The first stretch lays the energies out as rows. -/
theorem rows_op (X : Vals) : after hostOps0 X (Proc.devRef .tc main_v0)
    = shapeCast S4096x8192 (X (Proc.devRef .tc main_arg0)) shapeCasts_S32x1x128x8192_S4096x8192 := by
  after_results
  rfl

/-- The second stretch clips the smoothing weights. -/
theorem weights_op (X : Vals) : after hostOps0_1 (after hostOps0 X) (Proc.devRef .tc main_v1)
    = (minimumf (broadcastInDim S128 ![] bcast_S_S128 (constant S_ .f32 0x3E4CCCCD#32))
        (maximumf (broadcastInDim S128 ![] bcast_S_S128 (constant S_ .f32 0x00000000#32)) (X (Proc.devRef .tc main_arg4))) :
        FVec Ideal S128 .f32) := by
  after_results
  rfl

/-- A parameter of every channel as a column. -/
abbrev column (v : FVec Ideal S128 .f32) : FVec Ideal S128x1 .f32 := broadcastInDim S128x1 ![0] bcast_S128_S128x1_0 v

/-- A constant for every channel. -/
abbrev splat (b : BitVec 32) : FVec Ideal S128 .f32 := broadcastInDim S128 ![] bcast_S_S128 (constant S_ .f32 b)

/-- One over the root, which is taken at least one, for every channel. -/
abbrev inverse (r : FVec Ideal S128 .f32) : FVec Ideal S128 .f32 := Host.divf (splat 0x3F800000#32) (maximumf r (splat 0x3F800000#32))

/-- The parameters of every channel: eight columns side by side. -/
def columns (w al d r : FVec Ideal S128 .f32) : FVec Ideal S128x8 .f32 :=
  concatenate S128x8 1 [⟨S128x1, column w⟩, ⟨S128x1, column (subf (splat 0x3F800000#32) w)⟩,
    ⟨S128x1, column (minimumf al (splat 0x3F800000#32))⟩, ⟨S128x1, column (inverse r)⟩, ⟨S128x1, column d⟩,
    ⟨S128x1, column (Host.powf d (inverse r))⟩, ⟨S128x1, column (splat 0x00000000#32)⟩, ⟨S128x1, column (splat 0x00000000#32)⟩]
    concatenates_S128x1_S128x1_S128x1_S128x1_S128x1_S128x1_S128x1_S128x1_S128x8_d1

/-- The channels' parameters repeated for every row. -/
def tiled (y : FVec Ideal S128x8 .f32) : FVec Ideal S4096x8 .f32 :=
  shapeCast S4096x8 (broadcastInDim S32x128x1x8 ![0, 1, 2, 3] bcast_S1x128x1x8_S32x128x1x8_0_1_2_3
    (shapeCast S1x128x1x8 y shapeCasts_S128x8_S1x128x1x8)) shapeCasts_S32x128x1x8_S4096x8

/-- The third stretch first makes the eight parameters of every channel into columns. -/
theorem columns_op (X : Vals) : after (hostOps0_2.take 25) X (Proc.devRef .tc main_v13) = column (X (Proc.devRef .tc main_v1))
    ∧ after (hostOps0_2.take 25) X (Proc.devRef .tc main_v14)
      = column (subf (splat 0x3F800000#32) (X (Proc.devRef .tc main_v1)))
    ∧ after (hostOps0_2.take 25) X (Proc.devRef .tc main_v15)
      = column (minimumf (X (Proc.devRef .tc main_arg1)) (splat 0x3F800000#32))
    ∧ after (hostOps0_2.take 25) X (Proc.devRef .tc main_v16) = column (inverse (X (Proc.devRef .tc main_arg3)))
    ∧ after (hostOps0_2.take 25) X (Proc.devRef .tc main_v17) = column (X (Proc.devRef .tc main_arg2))
    ∧ after (hostOps0_2.take 25) X (Proc.devRef .tc main_v18)
      = column (Host.powf (X (Proc.devRef .tc main_arg2)) (inverse (X (Proc.devRef .tc main_arg3))))
    ∧ after (hostOps0_2.take 25) X (Proc.devRef .tc main_v19) = column (splat 0x00000000#32)
    ∧ after (hostOps0_2.take 25) X (Proc.devRef .tc main_v20) = column (splat 0x00000000#32) := by
  simp only [hostOps0_2, List.take_succ_cons, List.take_zero]
  refine ⟨?_, ?_, ?_, ?_, ?_, ?_, ?_, ?_⟩ <;> after_results

/-- It then sets the columns side by side and repeats them for every batch entry. -/
theorem tiled_op (Y : Vals) : after (hostOps0_2.drop 25) Y (Proc.devRef .tc main_v24)
    = tiled (concatenate S128x8 1 [⟨S128x1, Y (Proc.devRef .tc main_v13)⟩, ⟨S128x1, Y (Proc.devRef .tc main_v14)⟩,
        ⟨S128x1, Y (Proc.devRef .tc main_v15)⟩, ⟨S128x1, Y (Proc.devRef .tc main_v16)⟩, ⟨S128x1, Y (Proc.devRef .tc main_v17)⟩,
        ⟨S128x1, Y (Proc.devRef .tc main_v18)⟩, ⟨S128x1, Y (Proc.devRef .tc main_v19)⟩, ⟨S128x1, Y (Proc.devRef .tc main_v20)⟩]
        concatenates_S128x1_S128x1_S128x1_S128x1_S128x1_S128x1_S128x1_S128x1_S128x8_d1) := by
  simp only [hostOps0_2, List.drop_succ_cons, List.drop_zero]
  after_results
  rfl

/-- What the third stretch leaves as the rows' parameters. -/
theorem params_op (X : Vals) : after hostOps0_2 X (Proc.devRef .tc main_v24)
    = tiled (columns (X (Proc.devRef .tc main_v1)) (X (Proc.devRef .tc main_arg1)) (X (Proc.devRef .tc main_arg2))
        (X (Proc.devRef .tc main_arg3))) := by
  obtain ⟨h0, h1, h2, h3, h4, h5, h6, h7⟩ := columns_op X
  have e : after hostOps0_2 X = after (hostOps0_2.drop 25) (after (hostOps0_2.take 25) X) := by
    rw [← after_append, List.take_append_drop]
  rw [e, tiled_op, h0, h1, h2, h3, h4, h5, h6, h7]
  rfl

/-- A constant for every entry of a square. -/
abbrev square (b : BitVec 32) : FVec Ideal S128x128 .f32 := broadcastInDim S128x128 ![] bcast_S_S128x128 (constant S_ .f32 b)

/-- An array's entries on and above the diagonal, and zeros below it. -/
def upper (y : FVec Ideal S128x128 .f32) : FVec Ideal S128x128 .f32 :=
  select (cmpi .sge (addi (iotaInDim S128x128 32 0)
    (broadcastInDim S128x128 ![] bcast_S_S128x128 (constantI S_ 32 4294967295#32))) (iotaInDim S128x128 32 1))
    (square 0x00000000#32) y

/-- Ones on and above the diagonal, next to ones. -/
def table : FVec Ideal S128x256 .f32 :=
  concatenate S128x256 1 [⟨S128x128, upper (square 0x3F800000#32)⟩, ⟨S128x128, square 0x3F800000#32⟩]
    concatenates_S128x128_S128x128_S128x256_d1

/-- The third stretch also leaves a square of ones. -/
theorem ones_op (X : Vals) : after hostOps0_2 X (Proc.devRef .tc main_v25) = square 0x3F800000#32 := by
  after_results

/-- The fourth stretch keeps the square's entries on and above the diagonal. -/
theorem upper_op (Y : Vals) : after hostOps0_3 Y (Proc.devRef .tc main_v26)
    = upper (Y (Proc.devRef .tc main_v25)) := by
  after_results
  simp only [TRef.ofBuf_toBuf]
  unfold upper
  generalize cmpi .sge _ _ = p
  rfl

/-- The fifth stretch sets a square of ones beside it. -/
theorem beside_op (Y : Vals) : after hostOps0_4 Y (Proc.devRef .tc main_v28)
    = (concatenate S128x256 1 [⟨S128x128, Y (Proc.devRef .tc main_v26)⟩, ⟨S128x128, square 0x3F800000#32⟩]
      concatenates_S128x128_S128x128_S128x256_d1 : FVec Ideal S128x256 .f32) := by
  after_results

/-- The last three stretches leave the table of ones. -/
theorem table_op (X : Vals) : after hostOps0_4 (after hostOps0_3 (after hostOps0_2 X)) (Proc.devRef .tc main_v28) = table := by
  rw [beside_op, upper_op, ones_op]
  rfl

/-! ## What each stretch leaves alone -/

/-- The buffers that the stretch `hostOps0` writes. -/
abbrev hostOps0_W : List (Ref sig .tc) := [main_v0, main_cst, main_cst_0]
/-- It writes no other buffer. -/
theorem hostOps0_writes : (hostOps0 : List (HloOp τ sig (Elt Ideal))).Forall fun op =>
    op.writes ⊆ (hostOps0_W.map (Proc.devRef (τ := τ) .tc)).toFinset :=
  StableHlo.forall_writes_sub_of_map rfl

/-- The buffers that the stretch `hostOps0_1` writes. -/
abbrev hostOps0_1_W : List (Ref sig .tc) := [main_call0_v0, main_call0_v1, main_call0_v2, main_call0_v3, main_call0_v4, main_v1]
/-- It writes no other buffer. -/
theorem hostOps0_1_writes : (hostOps0_1 : List (HloOp τ sig (Elt Ideal))).Forall fun op =>
    op.writes ⊆ (hostOps0_1_W.map (Proc.devRef (τ := τ) .tc)).toFinset :=
  StableHlo.forall_writes_sub_of_map rfl

/-- The buffers that the stretch `hostOps0_2` writes. -/
abbrev hostOps0_2_W : List (Ref sig .tc) := [main_cst_1, main_v2, main_v3, main_cst_2, main_v4, main_v5, main_cst_3, main_v6, main_v7, main_cst_4, main_v8, main_v9, main_v10, main_cst_5, main_v11, main_cst_6, main_v12, main_v13, main_v14, main_v15, main_v16, main_v17, main_v18, main_v19, main_v20, main_v21, main_v22, main_v23, main_v24, main_cst_7, main_v25]
/-- It writes no other buffer. -/
theorem hostOps0_2_writes : (hostOps0_2 : List (HloOp τ sig (Elt Ideal))).Forall fun op =>
    op.writes ⊆ (hostOps0_2_W.map (Proc.devRef (τ := τ) .tc)).toFinset :=
  StableHlo.forall_writes_sub_of_map rfl

/-- The buffers that the stretch `hostOps0_3` writes. -/
abbrev hostOps0_3_W : List (Ref sig .tc) := [main_call1_v0, main_call1_c, main_call1_v1, main_call1_v2, main_call1_v3, main_call1_v4, main_call1_cst, main_call1_v5, main_v26]
/-- It writes no other buffer. -/
theorem hostOps0_3_writes : (hostOps0_3 : List (HloOp τ sig (Elt Ideal))).Forall fun op =>
    op.writes ⊆ (hostOps0_3_W.map (Proc.devRef (τ := τ) .tc)).toFinset :=
  StableHlo.forall_writes_sub_of_map rfl

/-- The buffers that the stretch `hostOps0_4` writes. -/
abbrev hostOps0_4_W : List (Ref sig .tc) := [main_cst_8, main_v27, main_v28]
/-- It writes no other buffer. -/
theorem hostOps0_4_writes : (hostOps0_4 : List (HloOp τ sig (Elt Ideal))).Forall fun op =>
    op.writes ⊆ (hostOps0_4_W.map (Proc.devRef (τ := τ) .tc)).toFinset :=
  StableHlo.forall_writes_sub_of_map rfl

/-! ## The arrays the grid reads -/

variable (m : (ℓ : Loc nD τ sig) → Buf (Elt Ideal) ℓ) (c : Dev nD)

/-- What the buffers hold at the start. -/
abbrev start : Vals := fun b => m (c, b)
/-- The energies. -/
abbrev xs : FVec Ideal S32x1x128x8192 .f32 := start m c (Proc.devRef .tc main_arg0)
/-- The exponents. -/
abbrev alphas : FVec Ideal S128 .f32 := start m c (Proc.devRef .tc main_arg1)
/-- The offsets. -/
abbrev deltas : FVec Ideal S128 .f32 := start m c (Proc.devRef .tc main_arg2)
/-- The roots. -/
abbrev roots : FVec Ideal S128 .f32 := start m c (Proc.devRef .tc main_arg3)
/-- The smoothing weights. -/
abbrev ws : FVec Ideal S128 .f32 := start m c (Proc.devRef .tc main_arg4)

/-- The stretches run one after the other. -/
theorem V_eq (b : Ref sig .tc) : V m c b = after hostOps0_4 (after hostOps0_3 (after hostOps0_2 (after hostOps0_1
    (after hostOps0 (start m c))))) (Proc.devRef .tc b) := rfl

/-- The grid reads the energies as rows. -/
theorem V_rows : V m c main_v0 = shapeCast S4096x8192 (xs m c) shapeCasts_S32x1x128x8192_S4096x8192 := by
  rw [V_eq, after_of_writes_sub hostOps0_4 _ hostOps0_4_writes (by decide),
    after_of_writes_sub hostOps0_3 _ hostOps0_3_writes (by decide),
    after_of_writes_sub hostOps0_2 _ hostOps0_2_writes (by decide),
    after_of_writes_sub hostOps0_1 _ hostOps0_1_writes (by decide), rows_op]

/-- The grid reads the table of ones. -/
theorem V_table : V m c main_v28 = table := by
  rw [V_eq, table_op]

/-- The clipped weights of the channels. -/
def clipped (w : FVec Ideal S128 .f32) : FVec Ideal S128 .f32 := minimumf (splat 0x3E4CCCCD#32) (maximumf (splat 0x00000000#32) w)

/-- What the first two stretches do not write holds what it held at the start. -/
theorem kept (r : Ref sig .tc) (h0 : r ∉ hostOps0_W) (h1 : r ∉ hostOps0_1_W) :
    after hostOps0_1 (after hostOps0 (start m c)) (Proc.devRef .tc r) = start m c (Proc.devRef .tc r) := by
  rw [after_of_writes_sub hostOps0_1 _ hostOps0_1_writes h1, after_of_writes_sub hostOps0 _ hostOps0_writes h0]

/-- The grid reads the parameters of the channels, repeated for every batch entry. -/
theorem V_params : V m c main_v24
    = tiled (columns (clipped (ws m c)) (alphas m c) (deltas m c) (roots m c)) := by
  rw [V_eq, after_of_writes_sub hostOps0_4 _ hostOps0_4_writes (by decide),
    after_of_writes_sub hostOps0_3 _ hostOps0_3_writes (by decide), params_op, weights_op,
    kept m c main_arg1 (by decide) (by decide), kept m c main_arg2 (by decide) (by decide),
    kept m c main_arg3 (by decide) (by decide)]
  rfl

/-- The clipped weights, channel by channel. -/
theorem clipped_apply (w : FVec Ideal S128 .f32) (ch : Fin 128) : clipped w (ix1 ch) = weight (w (ix1 ch)) := by
  unfold clipped weight
  pointwise

/-! ## Their entries -/

/-- The repeated parameters of a row are those of its channel. -/
theorem tiled_apply (y : FVec Ideal S128x8 .f32) (R : Fin 4096) (k : Fin 8) (ch : Fin 128) (h : ch.val = R.val % 128) :
    tiled y (ix2 R k) = y (ix2 ch k) := by
  have hc : R.val % 128 < 128 := Nat.mod_lt _ (by decide)
  obtain rfl : ch = ⟨R.val % 128, hc⟩ := Fin.ext h
  unfold tiled
  pointwise

/-- The columns, one by one: the weight, the decay, the exponent, the inverse root, the offset, its power. -/
theorem columns_apply (w al d r : FVec Ideal S128 .f32) (ch : Fin 128) :
    columns w al d r (ix2 ch 0) = w (ix1 ch) ∧ columns w al d r (ix2 ch 1) = 1 - w (ix1 ch)
      ∧ columns w al d r (ix2 ch 2) = expo (al (ix1 ch)) ∧ columns w al d r (ix2 ch 3) = Inputs.inv (r (ix1 ch))
      ∧ columns w al d r (ix2 ch 4) = d (ix1 ch)
      ∧ columns w al d r (ix2 ch 5) = Ideal.pow (d (ix1 ch)) (Inputs.inv (r (ix1 ch))) := by
  unfold columns expo Inputs.inv
  refine ⟨?_, ?_, ?_, ?_, ?_, ?_⟩ <;> pointwise

/-- The triangle's comparison: the row's number less one is at least the column's number exactly below the diagonal. -/
theorem below_diagonal : ∀ k j : Fin 128, IntOp.cmpi .sge (IntOp.addi (BitVec.ofNat 32 k.val) 4294967295#32)
    (BitVec.ofNat 32 j.val) = if k.val ≤ j.val then 0#1 else 1#1 := by decide +kernel

/-- The table holds ones on and above the diagonal of its first square and all over its second, zeros elsewhere. -/
theorem table_apply : Lanes.Table table := by
  intro k j
  unfold table upper
  pointwise
  split
  · next hj =>
    rw [below_diagonal k ⟨j.val, hj⟩]
    by_cases h : k.val ≤ j.val
    · rw [if_pos h, if_pos h]; rfl
    · rw [if_neg h, if_neg h]; rfl
  · next hj => rw [if_pos (by have := k.isLt; omega)]

/-- The energies as rows: row `R` is that of batch entry `R / 128` and channel `R % 128`. -/
theorem rows_apply (X : FVec Ideal S32x1x128x8192 .f32) (R : Fin 4096) (t : Fin 8192) (b : Fin 32) (ch : Fin 128)
    (hb : b.val = R.val / 128) (hc : ch.val = R.val % 128) :
    shapeCast S4096x8192 X shapeCasts_S32x1x128x8192_S4096x8192 (ix2 R t) = row X b ch t.val := by
  have hb' : R.val / 128 < 32 := by clear hb hc; omega
  have hc' : R.val % 128 < 128 := by clear hb hc; omega
  obtain rfl : b = ⟨R.val / 128, hb'⟩ := Fin.ext hb
  obtain rfl : ch = ⟨R.val % 128, hc'⟩ := Fin.ext hc
  have e : (⟨t.val % 8192, Nat.mod_lt _ (by decide)⟩ : Fin 8192) = t := Fin.ext (Nat.mod_eq_of_lt t.isLt)
  unfold row
  rw [e]
  pointwise

end Cert.KernelIdeal.Operands
-- ==== Proof.Points.lean ====
/-
  The grid's points in turn: what each finds in its blocks, what it keeps for the next, what it writes; and the whole array
  that the kernel leaves.
-/
module

public import proofs.«01_k».proof.Proof.Operands
public import proofs.«01_k».proof.Proof.Gen.KernelIdeal.Value

@[expose] public section

set_option maxRecDepth 16384

noncomputable section

open Idealize.ShloMosaic Idealize.ShloMosaic.TcCoe Idealize.ShloMosaic.StableHlo

namespace Cert.KernelIdeal.Points

open Cert.KernelIdeal Cert.KernelIdeal.Gen Cert.KernelIdeal.Value Cert.KernelIdeal.Operands Cert.KernelIdeal.Lanes
open Cert.KernelIdeal.Chunk Cert.Inputs Cert.Smoothing

/-! ## The blocks -/

/-- The blocks' places in their arrays: point `t` works on block of rows `t / 8` and block of times `t % 8`. -/
theorem places : ∀ t : Fin cfg0.N, win0_0.index t = ![t.val / 8, 0] ∧ win0_1.index t = ![0, 0]
    ∧ win0_2.index t = ![t.val / 8, t.val % 8] :=
  (by decide +kernel : ∀ t : Fin grid0.N, _)

/-- There are sixteen points. -/
theorem points_lt (t : Fin cfg0.N) : t.val < 16 := lt_of_lt_of_eq t.isLt (show cfg0.N = 16 from N_0)

variable (m : (ℓ : Loc nD τ sig) → Buf (Elt Ideal) ℓ) (c : Dev nD)

/-- A point's block of parameters is read off the array of parameters at the block's rows. -/
theorem params_block (t : Fin cfg0.N) (r : Fin 2048) (k : Fin 8) (R : Fin 4096) (hR : R.val = 2048 * (t.val / 8) + r.val) :
    (iblk m c 0 t : FVec Ideal S2048x8 .f32) (ix2 r k) = (V m c main_v24 : FVec Ideal S4096x8 .f32) (ix2 R k) := by
  blk_ext [iblk, places t]

/-- Every point's block of the table is the whole table. -/
theorem table_block (t : Fin cfg0.N) : (iblk m c 1 t : FVec Ideal S128x256 .f32) = (V m c main_v28 : FVec Ideal S128x256 .f32) := by
  funext y
  blk_ext [iblk, places t]

/-- A point's block of energies is read off the array of energies at the block's rows and times. -/
theorem rows_block (t : Fin cfg0.N) (r : Fin 2048) (q : Fin 1024) (R : Fin 4096) (T : Fin 8192)
    (hR : R.val = 2048 * (t.val / 8) + r.val) (hT : T.val = 1024 * (t.val % 8) + q.val) :
    (iblk m c 2 t : FVec Ideal S2048x1024 .f32) (ix2 r q) = (V m c main_v0 : FVec Ideal S4096x8192 .f32) (ix2 R T) := by
  blk_ext [iblk, places t]

/-! ## A row's reals -/

/-- The conditions under which the operation is the one the reference computes: energies real and not negative, exponents
above the least value, offsets not negative. -/
def Fit : Prop := (∀ i, 0 ≤ xs m c i) ∧ (∀ i, xs m c i < ⊤) ∧ (∀ i, ⊥ < alphas m c i) ∧ (∀ i, 0 ≤ deltas m c i)

/-- The channel of a row of a block. -/
def chan (r : Fin 2048) : Fin 128 := ⟨r.val % 128, Nat.mod_lt _ (by decide)⟩

/-- The batch entry of row `r` of point `n`'s block. -/
def entry (n : ℕ) (r : Fin 2048) : Fin 32 := ⟨(16 * (n / 8) + r.val / 128) % 32, Nat.mod_lt _ (by decide)⟩

/-- The row's smoothing weight. -/
def rowWeight (r : Fin 2048) : ℝ := (weight (ws m c (ix1 (chan r)))).toReal
/-- The row's exponent. -/
def rowExpo (r : Fin 2048) : ℝ := (expo (alphas m c (ix1 (chan r)))).toReal
/-- The row's inverse root. -/
def rowInv (r : Fin 2048) : ℝ := (Inputs.inv (roots m c (ix1 (chan r)))).toReal
/-- The row's offset. -/
def rowDelta (r : Fin 2048) : EReal := deltas m c (ix1 (chan r))
/-- The row's offset to the inverse root. -/
def rowConst (r : Fin 2048) : EReal := Ideal.pow (deltas m c (ix1 (chan r))) (Inputs.inv (roots m c (ix1 (chan r))))
/-- The row's energies. -/
def energy (n : ℕ) (r : Fin 2048) (k : ℕ) : ℝ := (row (xs m c) (entry n r) (chan r) k).toReal

variable {m c}

/-- A row's weight is a real number, at least zero and below one. -/
theorem rowWeight_spec (r : Fin 2048) :
    weight (ws m c (ix1 (chan r))) = (rowWeight m c r : EReal) ∧ 0 ≤ rowWeight m c r ∧ rowWeight m c r < 1 := by
  obtain ⟨w, h0, h1, hw⟩ := weight_real (ws m c (ix1 (chan r)))
  have e : rowWeight m c r = w := by unfold rowWeight; rw [hw]; rfl
  rw [e]
  exact ⟨hw, h0, h1⟩

/-- A row's exponent is a real number. -/
theorem rowExpo_spec (h : Fit m c) (r : Fin 2048) : expo (alphas m c (ix1 (chan r))) = (rowExpo m c r : EReal) := by
  obtain ⟨a, ha⟩ := expo_real (h.2.2.1 (ix1 (chan r)))
  unfold rowExpo
  rw [ha]
  rfl

/-- A row's inverse root is a real number that is not negative. -/
theorem rowInv_spec (r : Fin 2048) : Inputs.inv (roots m c (ix1 (chan r))) = (rowInv m c r : EReal) ∧ 0 ≤ rowInv m c r := by
  obtain ⟨a, h0, ha⟩ := inv_real (roots m c (ix1 (chan r)))
  have e : rowInv m c r = a := by unfold rowInv; rw [ha]; rfl
  rw [e]
  exact ⟨ha, h0⟩

/-- A row's energies are real numbers that are not negative. -/
theorem energy_spec (h : Fit m c) (n : ℕ) (r : Fin 2048) (k : ℕ) :
    row (xs m c) (entry n r) (chan r) k = (energy m c n r k : EReal) ∧ 0 ≤ energy m c n r k := by
  have h0 : 0 ≤ row (xs m c) (entry n r) (chan r) k := h.1 _
  have h1 : row (xs m c) (entry n r) (chan r) k < ⊤ := h.2.1 _
  refine ⟨(EReal.coe_toReal h1.ne ?_).symm, EReal.toReal_nonneg h0⟩
  exact fun e => absurd (e ▸ h0) (by simp)

/-! ## What a point finds -/

variable (m c)

/-- The row of the arrays that row `r` of point `t`'s block is. -/
theorem row_exists (t : Fin cfg0.N) (r : Fin 2048) : ∃ R : Fin 4096, R.val = 2048 * (t.val / 8) + r.val
    ∧ (chan r).val = R.val % 128 ∧ (entry t.val r).val = R.val / 128 := by
  have ht := points_lt t
  have hr := r.isLt
  refine ⟨⟨2048 * (t.val / 8) + r.val, by omega⟩, rfl, ?_, ?_⟩
  · show r.val % 128 = (2048 * (t.val / 8) + r.val) % 128
    omega
  · show (16 * (t.val / 8) + r.val / 128) % 32 = (2048 * (t.val / 8) + r.val) / 128
    omega

variable {m c}

/-- The block of parameters holds the rows' parameters. -/
theorem params_found (h : Fit m c) (t : Fin cfg0.N) (r : Fin 2048) :
    Params (iblk m c 0 t) r (rowWeight m c r) (rowExpo m c r) (rowInv m c r) (rowDelta m c r) (rowConst m c r) := by
  obtain ⟨R, hR, hc, -⟩ := row_exists t r
  have hp : ∀ k : Fin 8, (iblk m c 0 t : FVec Ideal S2048x8 .f32) (ix2 r k)
      = columns (clipped (ws m c)) (alphas m c) (deltas m c) (roots m c) (ix2 (chan r) k) := fun k => by
    rw [params_block m c t r k R hR, V_params]
    exact tiled_apply _ R k (chan r) hc
  obtain ⟨c0, c1, c2, c3, c4, c5⟩ := columns_apply (clipped (ws m c)) (alphas m c) (deltas m c) (roots m c) (chan r)
  have hw := (rowWeight_spec (m := m) (c := c) r).1
  rw [← clipped_apply] at hw
  exact {
    weight := by rw [hp, c0, hw]
    decay := by rw [hp, c1, hw]; rfl
    expo := by rw [hp, c2, rowExpo_spec h]
    inv := by rw [hp, c3, (rowInv_spec r).1]
    delta := by rw [hp, c4]; rfl
    const := by rw [hp, c5]; rfl }

/-- The block of the table is the table. -/
theorem table_found (t : Fin cfg0.N) : Table (iblk m c 1 t) := by
  rw [table_block, V_table]
  exact table_apply

/-- The block of energies holds the rows' energies at the point's times. -/
theorem rows_found (h : Fit m c) (t : Fin cfg0.N) (r : Fin 2048) :
    Holds (iblk m c 2 t) r (energy m c t.val r) (1024 * (t.val % 8)) := by
  intro q
  obtain ⟨R, hR, hc, he⟩ := row_exists t r
  have hq := q.isLt
  rw [rows_block m c t r q R ⟨1024 * (t.val % 8) + q.val, by omega⟩ hR rfl, V_rows,
    rows_apply _ R _ (entry t.val r) (chan r) he hc]
  exact (energy_spec h _ _ _).1

/-! ## What a point keeps and writes -/

/-- What the buffers of a point hold: its block of the result, then the scratch. -/
abbrev Kept := Vec Ideal S2048x1024 .f32 × Vec Ideal S2048x128 .f32 × Vec Ideal S2048x128 .f32 × Vec Ideal S2048x128 .f32
  × Vec Ideal S2048x128 .f32 × Vec Ideal S2048x128 .f32 × Vec Ideal S2048x128 .f32 × Vec Ideal S2048x128 .f32
  × Vec Ideal S2048x128 .f32

/-- After point `n` the scratch holds every row's constants, and the decayed smoothed energy its next point starts from. -/
def Carried (m : (ℓ : Loc nD τ sig) → Buf (Elt Ideal) ℓ) (c : Dev nD) (n : ℕ) (s : Kept) : Prop := ∀ r : Fin 2048,
  Consts r (rowWeight m c r) (rowExpo m c r) (rowInv m c r) (rowDelta m c r) (rowConst m c r) s.2.2.1 s.2.2.2.1 s.2.2.2.2.1
      s.2.2.2.2.2.1 s.2.2.2.2.2.2.1 s.2.2.2.2.2.2.2.1 s.2.2.2.2.2.2.2.2
    ∧ ∀ l : Fin 128, s.2.1 (ix2 r l)
        = (((1 - rowWeight m c r) * before (rowWeight m c r) (energy m c n r) (1024 * (n % 8 + 1)) : ℝ) : EReal)

/-- Point `n` writes every energy of its block compressed by its smoothed energy. -/
def Written (m : (ℓ : Loc nD τ sig) → Buf (Elt Ideal) ℓ) (c : Dev nD) (n : ℕ) (s : Kept) : Prop :=
  ∀ (r : Fin 2048) (q : Fin 1024), s.1 (ix2 r q)
    = Ideal.pow (Ideal.div (energy m c n r (1024 * (n % 8) + q.val) : EReal)
        (Ideal.pow (Ideal.ofBits .f32 0x358637BD#32
          + (ema (rowWeight m c r) (energy m c n r) (1024 * (n % 8) + q.val) : EReal)) (rowExpo m c r : EReal))
        + rowDelta m c r) (rowInv m c r : EReal) - rowConst m c r

/-- The first point of a run of eight. -/
theorem first_point (h : Fit m c) (t : Fin cfg0.N) (s : Kept) (h0 : t.val % 8 = 0) :
    Carried m c t.val (stAt0 m c t.val t.isLt s) ∧ Written m c t.val (stAt0 m c t.val t.isLt s) := by
  rw [stAt0_A m c t s h0, out_A, carry_A, fill1_A, fill2_A, fill3_A, fill4_A, fill5_A, fill6_A, fill7_A]
  have hcs : ∀ r : Fin 2048, _ := fun r => consts_fill (params_found h t r) (rowWeight_spec r).2.2
  have hac : ∀ (r : Fin 2048) (l : Fin 128), acFill (iblk m c 0 t) (iblk m c 2 t) (ix2 r l)
      = (((1 - rowWeight m c r) * before (rowWeight m c r) (energy m c t.val r) (1024 * (t.val % 8)) : ℝ) : EReal) := fun r l => by
    have he := rows_found h t r 0
    rw [h0] at he ⊢
    exact acFill_apply (params_found h t r) _ _ he l
  refine ⟨fun r => ⟨hcs r, fun l => ?_⟩, fun r q => ?_⟩
  · have e := carries_apply (table_found (m := m) (c := c) t) (rowWeight_spec r).2.2 (rows_found h t r) (hcs r) (hac r) 8 (le_refl 8) l
    rwa [show 1024 * (t.val % 8) + 128 * 8 = 1024 * (t.val % 8 + 1) by omega] at e
  · exact block_apply (table_found (m := m) (c := c) t) (rowWeight_spec r).2.1 (rowWeight_spec r).2.2 (rowInv_spec r).2
      (h.2.2.2 _) (fun k => (energy_spec h _ _ k).2) (rows_found h t r) (hcs r) (hac r) q

/-- A later point of a run, from what the point before it kept. -/
theorem later_point (h : Fit m c) (t : Fin cfg0.N) (s : Kept) (h0 : ¬ t.val % 8 = 0) (hs : Carried m c (t.val - 1) s) :
    Carried m c t.val (stAt0 m c t.val t.isLt s) ∧ Written m c t.val (stAt0 m c t.val t.isLt s) := by
  rw [stAt0_B m c t s h0, out_B, carry_B]
  have hcs : ∀ r : Fin 2048, _ := fun r => (hs r).1
  have hac : ∀ (r : Fin 2048) (l : Fin 128), s.2.1 (ix2 r l)
      = (((1 - rowWeight m c r) * before (rowWeight m c r) (energy m c t.val r) (1024 * (t.val % 8)) : ℝ) : EReal) := fun r l => by
    have e := (hs r).2 l
    have hd : (t.val - 1) / 8 = t.val / 8 := by omega
    have hm : (t.val - 1) % 8 + 1 = t.val % 8 := by omega
    have he : energy m c (t.val - 1) r = energy m c t.val r := by
      have hb : entry (t.val - 1) r = entry t.val r := Fin.ext (by
        show (16 * ((t.val - 1) / 8) + r.val / 128) % 32 = (16 * (t.val / 8) + r.val / 128) % 32
        rw [hd])
      unfold energy
      rw [hb]
    rwa [he, hm] at e
  refine ⟨fun r => ⟨hcs r, fun l => ?_⟩, fun r q => ?_⟩
  · have e := carries_apply (table_found (m := m) (c := c) t) (rowWeight_spec r).2.2 (rows_found h t r) (hcs r) (hac r) 8 (le_refl 8) l
    rwa [show 1024 * (t.val % 8) + 128 * 8 = 1024 * (t.val % 8 + 1) by omega] at e
  · exact block_apply (table_found (m := m) (c := c) t) (rowWeight_spec r).2.1 (rowWeight_spec r).2.2 (rowInv_spec r).2
      (h.2.2.2 _) (fun k => (energy_spec h _ _ k).2) (rows_found h t r) (hcs r) (hac r) q

/-- Every point. -/
theorem every_point (h : Fit m c) : ∀ (n : ℕ) (hn : 0 + n < cfg0.N),
    Carried m c n (Pipeline.accAt (fun n h => stAt0 m c n h junk0) (stAt0 m c) 0 n hn)
      ∧ Written m c n (Pipeline.accAt (fun n h => stAt0 m c n h junk0) (stAt0 m c) 0 n hn)
  | 0, hn => first_point h ⟨0, hn⟩ junk0 rfl
  | n + 1, hn => by
    rw [Pipeline.accAt_succ]
    have hn' : n + 1 < cfg0.N := by omega
    have e : ∀ s : Kept, stAt0 m c (0 + (n + 1)) hn s = stAt0 m c (n + 1) hn' s := fun s => by congr 1; omega
    rw [e]
    by_cases h0 : (n + 1) % 8 = 0
    · exact first_point h ⟨n + 1, hn'⟩ _ h0
    · exact later_point h ⟨n + 1, hn'⟩ _ h0 (every_point h n _).1

/-! ## The whole array -/

/-- The array that the kernel leaves: the operation's value at every row and time. -/
theorem result_apply (h : Fit m c) (R : Fin 4096) (t : Fin 8192) (b : Fin 32) (ch : Fin 128) (hb : b.val = R.val / 128)
    (hc : ch.val = R.val % 128) : (G3 m c : FVec Ideal S4096x8192 .f32) (ix2 R t)
      = value (xs m c) (alphas m c) (deltas m c) (roots m c) (ws m c) b ch t.val := by
  have hR := R.isLt
  have ht := t.isLt
  have hN : cfg0.N = 16 := N_0
  have hp : pt3Of (ix2 R t) = 8 * (R.val / 2048) + t.val / 1024 := by
    show 8 * (R.val / 2048 - 0) + 1 * (t.val / 1024 - 0) = _
    omega
  have hlt : pt3Of (ix2 R t) < cfg0.N := by rw [hp, hN]; omega
  have hl : loc3Of (ix2 R t) = ix2 (⟨R.val % 2048, by omega⟩ : Fin 2048) (⟨t.val % 1024, by omega⟩ : Fin 1024) := by
    blk_ext
  unfold G3
  rw [dif_pos hlt, hl, (every_point h _ (by omega)).2, hp]
  have hch : chan ⟨R.val % 2048, by omega⟩ = ch := Fin.ext (by show R.val % 2048 % 128 = ch.val; omega)
  have hbe : entry (8 * (R.val / 2048) + t.val / 1024) ⟨R.val % 2048, by omega⟩ = b := Fin.ext (by
    show (16 * ((8 * (R.val / 2048) + t.val / 1024) / 8) + R.val % 2048 / 128) % 32 = b.val
    omega)
  have hT : 1024 * ((8 * (R.val / 2048) + t.val / 1024) % 8) + t.val % 1024 = t.val := by omega
  have hrow : row (xs m c) b ch = fun k => (energy m c (8 * (R.val / 2048) + t.val / 1024) ⟨R.val % 2048, by omega⟩ k : EReal) := by
    funext k
    rw [← (energy_spec h _ _ k).1, hch, hbe]
  have hw := (rowWeight_spec (m := m) (c := c) ⟨R.val % 2048, by omega⟩).1
  have hv := (rowInv_spec (m := m) (c := c) ⟨R.val % 2048, by omega⟩).1
  have ha := rowExpo_spec h ⟨R.val % 2048, by omega⟩
  unfold rowDelta rowConst
  rw [hch] at hw hv ha ⊢
  unfold value
  rw [hT, hrow, hw, hv, ha, smoothed_coe]

end Cert.KernelIdeal.Points
-- ==== Proof.Reference.lean ====
/-
  What the reference computes. Its host loop smooths every channel's energies in time, one time a trip; what follows the
  loop compresses each energy by its smoothed energy.
-/
module

public import proofs.«01_k».proof.Proof.Gen.ReferenceIdeal.Run
public import proofs.«01_k».proof.Proof.Inputs
public import Idealize.ShloMosaic.Lib.Pipeline.ValueKit

@[expose] public section

set_option maxRecDepth 16384

noncomputable section

open Idealize.ShloMosaic Idealize.ShloMosaic.TcCoe Idealize.ShloMosaic.StableHlo

namespace Cert.ReferenceIdeal.Smooth

open Cert.ReferenceIdeal Cert.ReferenceIdeal.Gen Cert.ReferenceIdeal.Value Cert.Inputs Cert.Smoothing

/-- The contents of the program's buffers. -/
abbrev Vals := Valuation τ sig (Elt Ideal)

/-- The energies a trip reads, the weights, the smoothed energy carried, and the smoothed energies so far. -/
abbrev energies (X : Vals) : FVec Ideal S8191x32x128 .f32 := X (Proc.devRef .tc main_v11_0)
/-- The clipped weights that the loop carries. -/
abbrev weights (X : Vals) : FVec Ideal S128 .f32 := X (Proc.devRef .tc main_v11_1)
/-- The smoothed energies of the trip before. -/
abbrev carried (X : Vals) : FVec Ideal S32x128 .f32 := X (Proc.devRef .tc main_v11_3)
/-- The smoothed energies of every trip so far. -/
abbrev stored (X : Vals) : FVec Ideal S8191x32x128 .f32 := X (Proc.devRef .tc main_v11_4)

/-! ## One trip -/

/-- A trip below the last is a trip's number as a start, read as an integer. -/
theorem trip_start : ∀ k : Fin 8191, (Scf.iv 0#32 1#32 k.val).toInt = k.val := by
  intro k
  have hk := k.isLt
  simp only [Scf.iv, BitVec.zero_add, BitVec.mul_one]
  rw [BitVec.toInt_eq_toNat_cond, BitVec.toNat_ofNat]
  omega

/-- What a trip computes: the weighted mean of the trip's energy and the smoothed energy carried in. -/
theorem mean_apply (X : Vals) (k : ℕ) (hk : k < 8191)
    (hc : X (Proc.devRef .tc main_v11_2) = fun _ => Scf.iv 0#32 1#32 k) (b : Fin 32) (ch : Fin 128) :
    res_main_while0b_v45 X (ix2 b ch)
      = weights X (ix1 ch) * energies X (ix3 ⟨k, hk⟩ b ch) + (1 - weights X (ix1 ch)) * carried X (ix2 b ch) := by
  unfold res_main_while0b_v45
  rw [hc]
  have e := trip_start ⟨k, hk⟩
  have e0 : Host.clampedStart S8191x32x128 S1x32x128 rfl
      (fun i => BitVec.toInt ((![fun _ => Scf.iv 0#32 1#32 k, constantI S_ 32 0#32, constantI S_ 32 0#32] :
        Fin 3 → (⟨S_, .i32⟩ : BufTy).Contents (Elt Ideal)) i (Shape.Idx.first h_S_))) 0 = k :=
    Host.clampedStart_of_le _ _ _ k e (by show k + 1 ≤ 8191; omega)
  pointwise
  congr 4
  · exact Fin.ext e0
  · exact Fin.ext (Nat.zero_add _)
  · exact Fin.ext (Nat.zero_add _)

/-- One row written into an array of rows, at an index: the row where it was written, the array elsewhere. -/
theorem row_written (Y : FVec Ideal S8191x32x128 .f32) (u : FVec Ideal S1x32x128 .f32) (start : Fin 3 → Int) (k : ℕ)
    (hk : k < 8191) (h0 : start 0 = k) (h1 : start 1 = 0) (h2 : start 2 = 0) (j : Fin 8191) (b : Fin 32) (ch : Fin 128) :
    Host.dynamicUpdateSlice Y u start updateFits_S8191x32x128_S1x32x128 (ix3 j b ch)
      = if j.val = k then u (ix3 0 b ch) else Y (ix3 j b ch) := by
  have e0 : Host.clampedStart S8191x32x128 S1x32x128 rfl start 0 = k :=
    Host.clampedStart_of_le _ _ _ k h0 (by show k + 1 ≤ 8191; omega)
  have e1 : Host.clampedStart S8191x32x128 S1x32x128 rfl start 1 = 0 :=
    Host.clampedStart_of_le _ _ _ 0 h1 (by decide)
  have e2 : Host.clampedStart S8191x32x128 S1x32x128 rfl start 2 = 0 :=
    Host.clampedStart_of_le _ _ _ 0 h2 (by decide)
  rw [Host.dynamicUpdateSlice_apply]
  by_cases hj : j.val = k
  · rw [if_pos hj, dif_pos]
    · refine congrArg u (funext fun a => Fin.ext ?_)
      match a with
      | ⟨0, _⟩ => show j.val - Host.clampedStart S8191x32x128 S1x32x128 rfl start 0 = 0; omega
      | ⟨1, _⟩ => show b.val - Host.clampedStart S8191x32x128 S1x32x128 rfl start 1 = b.val; omega
      | ⟨2, _⟩ => show ch.val - Host.clampedStart S8191x32x128 S1x32x128 rfl start 2 = ch.val; omega
    · intro a
      match a with
      | ⟨0, _⟩ =>
        show Host.clampedStart S8191x32x128 S1x32x128 rfl start 0 ≤ j.val ∧
          j.val < Host.clampedStart S8191x32x128 S1x32x128 rfl start 0 + 1
        omega
      | ⟨1, _⟩ =>
        show Host.clampedStart S8191x32x128 S1x32x128 rfl start 1 ≤ b.val ∧
          b.val < Host.clampedStart S8191x32x128 S1x32x128 rfl start 1 + 32
        omega
      | ⟨2, _⟩ =>
        show Host.clampedStart S8191x32x128 S1x32x128 rfl start 2 ≤ ch.val ∧
          ch.val < Host.clampedStart S8191x32x128 S1x32x128 rfl start 2 + 128
        omega
  · rw [if_neg hj, dif_neg]
    intro h
    have h' : Host.clampedStart S8191x32x128 S1x32x128 rfl start 0 ≤ j.val ∧
        j.val < Host.clampedStart S8191x32x128 S1x32x128 rfl start 0 + 1 := h 0
    omega

/-- What a trip leaves in the array of smoothed energies: its own row holds what it computed. -/
theorem stored_apply (X : Vals) (k : ℕ) (hk : k < 8191)
    (hc : X (Proc.devRef .tc main_v11_2) = fun _ => Scf.iv 0#32 1#32 k) (j : Fin 8191) (b : Fin 32) (ch : Fin 128) :
    step_main_v11_4 X (ix3 j b ch)
      = if j.val = k then res_main_while0b_v45 X (ix2 b ch) else stored X (ix3 j b ch) := by
  unfold step_main_v11_4
  rw [hc, id_eq]
  refine (row_written _ _ _ k hk (trip_start ⟨k, hk⟩) rfl rfl j b ch).trans ?_
  generalize res_main_while0b_v45 X = y
  congr 1
  pointwise

/-! ## Around the loop -/

/-- The references the loop's condition and body write. -/
abbrev loopWrites : List (Ref sig .tc) :=
  condOps_W ++ while0Ops0_W ++ while0Ops0_1_W ++ while0Ops0_2_W ++ while0Ops0_3_W

/-- What the loop does not write it leaves. -/
theorem loop_keeps (m : (ℓ : Loc nD τ sig) → Buf (Elt Ideal) ℓ) (c : Dev nD) (r : Ref sig .tc) (h : r ∉ loopWrites) (k : ℕ) :
    atK m k c (Proc.devRef .tc r) = entryContents preI m c (Proc.devRef .tc r) := by
  simp only [loopWrites, List.mem_append, not_or] at h
  obtain ⟨⟨⟨⟨h1, h2⟩, h3⟩, h4⟩, h5⟩ := h
  induction k with
  | zero => rfl
  | succ k ih =>
    show after while0Ops0_3 (after while0Ops0_2 (after while0Ops0_1 (after while0Ops0 (after condOps (atK m k c))))) _ = _
    rw [after_of_writes_sub _ _ while0Ops0_3_writes h5, after_of_writes_sub _ _ while0Ops0_2_writes h4,
      after_of_writes_sub _ _ while0Ops0_1_writes h3, after_of_writes_sub _ _ while0Ops0_writes h2,
      after_of_writes_sub _ _ condOps_writes h1, ih]

/-- What the operations before the loop do not write holds what it held at the start. -/
theorem entry_keeps (m : (ℓ : Loc nD τ sig) → Buf (Elt Ideal) ℓ) (c : Dev nD) (r : Ref sig .tc)
    (h : r ∉ hostOps0_W ++ hostOps0_1_W ++ hostOps0_2_W) :
    entryContents preI m c (Proc.devRef .tc r) = launchContents m c (Proc.devRef .tc r) := by
  simp only [List.mem_append, not_or] at h
  obtain ⟨⟨h1, h2⟩, h3⟩ := h
  show after hostOps0_2 (after hostOps0_1 (after hostOps0 (launchContents m c))) _ = _
  rw [after_of_writes_sub _ _ hostOps0_2_writes h3, after_of_writes_sub _ _ hostOps0_1_writes h2,
    after_of_writes_sub _ _ hostOps0_writes h1]

/-- The axis of length one dropped. -/
theorem squeezed (X : FVec Ideal S32x1x128x8192 .f32) (b : Fin 32) (ch : Fin 128) (t : Fin 8192) :
    shapeCast S32x128x8192 X shapeCasts_S32x1x128x8192_S32x128x8192 (ix3 b ch t) = row X b ch t.val := by
  have e : (⟨t.val % 8192, Nat.mod_lt _ (by decide)⟩ : Fin 8192) = t := Fin.ext (Nat.mod_eq_of_lt t.isLt)
  unfold row
  rw [e]
  pointwise

variable (m : (ℓ : Loc nD τ sig) → Buf (Elt Ideal) ℓ) (c : Dev nD)

/-- The energies, the parameters of a channel, as they lie in the arguments. -/
abbrev xs : FVec Ideal S32x1x128x8192 .f32 := m ((c.tc : Thread nD τ).loc main_arg0)
/-- The exponents. -/
abbrev alphas : FVec Ideal S128 .f32 := m ((c.tc : Thread nD τ).loc main_arg1)
/-- The offsets. -/
abbrev deltas : FVec Ideal S128 .f32 := m ((c.tc : Thread nD τ).loc main_arg2)
/-- The roots. -/
abbrev roots : FVec Ideal S128 .f32 := m ((c.tc : Thread nD τ).loc main_arg3)
/-- The smoothing weights. -/
abbrev ws : FVec Ideal S128 .f32 := m ((c.tc : Thread nD τ).loc main_arg4)

/-- The energies with the axis of length one dropped. -/
theorem entry_v0 (X : Vals) : after hostOps0 X (Proc.devRef .tc main_v0)
    = shapeCast S32x128x8192 (X (Proc.devRef .tc main_arg0)) shapeCasts_S32x1x128x8192_S32x128x8192 := by
  after_results
  rfl

/-- The weights. -/
theorem entry_v1 (X : Vals) : after hostOps0_1 (after hostOps0 X) (Proc.devRef .tc main_v1)
    = (minimumf (broadcastInDim S128 ![] bcast_S_S128 (constant S_ .f32 0x3E4CCCCD#32))
        (maximumf (broadcastInDim S128 ![] bcast_S_S128 (constant S_ .f32 0x00000000#32)) (X (Proc.devRef .tc main_arg4))) :
        FVec Ideal S128 .f32) := by
  after_results
  rfl

/-- The exponents. -/
theorem entry_v3 (X : Vals) : after hostOps0_2 X (Proc.devRef .tc main_v3)
    = (minimumf (X (Proc.devRef .tc main_arg1)) (broadcastInDim S128 ![] bcast_S_S128 (constant S_ .f32 0x3F800000#32)) :
        FVec Ideal S128 .f32) := by
  after_results

/-- The roots, at least one. -/
theorem entry_v5 (X : Vals) : after hostOps0_2 X (Proc.devRef .tc main_v5)
    = (maximumf (X (Proc.devRef .tc main_arg3)) (broadcastInDim S128 ![] bcast_S_S128 (constant S_ .f32 0x3F800000#32)) :
        FVec Ideal S128 .f32) := by
  after_results

/-- The energies with time first. -/
theorem entry_v6 (X : Vals) : after hostOps0_2 X (Proc.devRef .tc main_v6)
    = transpose S8192x32x128 [2, 0, 1] (X (Proc.devRef .tc main_v0)) transposes_S32x128x8192_S8192x32x128_2_0_1 := by
  after_results

/-- The energies of the times from one on, the loop's operand. -/
theorem entry_v11_0 (X : Vals) : after hostOps0_2 X (Proc.devRef .tc main_v11_0)
    = extractStridedSlice S8191x32x128 ![1, 0, 0]
        (transpose S8192x32x128 [2, 0, 1] (X (Proc.devRef .tc main_v0)) transposes_S32x128x8192_S8192x32x128_2_0_1)
        slices_S8192x32x128_S8191x32x128_1_0_0 := by
  after_results
  rfl

/-- The loop's weights. -/
theorem entry_v11_1 (X : Vals) : after hostOps0_2 X (Proc.devRef .tc main_v11_1) = X (Proc.devRef .tc main_v1) := by
  after_results
  rfl

/-- The energies the loop starts with, those of the first time. -/
theorem entry_v11_3 (X : Vals) : after hostOps0_2 X (Proc.devRef .tc main_v11_3)
    = shapeCast S32x128 (extractStridedSlice S1x32x128 ![0, 0, 0]
        (transpose S8192x32x128 [2, 0, 1] (X (Proc.devRef .tc main_v0)) transposes_S32x128x8192_S8192x32x128_2_0_1)
        slices_S8192x32x128_S1x32x128_0_0_0) shapeCasts_S1x32x128_S32x128 := by
  after_results
  rfl

/-! ## After the loop -/

/-- The smoothed energies of all times: the first energies, then what the loop stored. -/
def joined (x6 : FVec Ideal S8192x32x128 .f32) (st : FVec Ideal S8191x32x128 .f32) : FVec Ideal S8192x32x128 .f32 :=
  concatenate S8192x32x128 0
    [⟨S1x32x128, extractStridedSlice S1x32x128 ![0, 0, 0] x6 slices_S8192x32x128_S1x32x128_0_0_0⟩, ⟨S8191x32x128, st⟩]
    concatenates_S1x32x128_S8191x32x128_S8192x32x128_d0

/-- The compression of the energies `x0` by the smoothed energies `sm`. -/
def result (x0 : FVec Ideal S32x128x8192 .f32) (sm : FVec Ideal S8192x32x128 .f32) (a d r : FVec Ideal S128 .f32) :
    FVec Ideal S4096x8192 .f32 :=
  shapeCast S4096x8192 (transpose S32x128x8192 [0, 2, 1]
    (subf
      (Host.powf
        (addf
          (Host.divf (transpose S32x8192x128 [0, 2, 1] x0 transposes_S32x128x8192_S32x8192x128_0_2_1)
            (Host.powf
              (addf (broadcastInDim S32x8192x128 ![] bcast_S_S32x8192x128 (constant S_ .f32 0x358637BD#32))
                (transpose S32x8192x128 [1, 0, 2] sm transposes_S8192x32x128_S32x8192x128_1_0_2))
              (broadcastInDim S32x8192x128 ![0, 1, 2] bcast_S1x1x128_S32x8192x128_0_1_2
                (broadcastInDim S1x1x128 ![2] bcast_S128_S1x1x128_2 a))))
          (broadcastInDim S32x8192x128 ![0, 1, 2] bcast_S1x1x128_S32x8192x128_0_1_2
            (broadcastInDim S1x1x128 ![2] bcast_S128_S1x1x128_2 d)))
        (broadcastInDim S32x8192x128 ![0, 1, 2] bcast_S1x1x128_S32x8192x128_0_1_2
          (broadcastInDim S1x1x128 ![2] bcast_S128_S1x1x128_2
            (Host.divf (broadcastInDim S128 ![] bcast_S_S128 (constant S_ .f32 0x3F800000#32)) r))))
      (broadcastInDim S32x8192x128 ![0, 1, 2] bcast_S1x1x128_S32x8192x128_0_1_2
        (broadcastInDim S1x1x128 ![2] bcast_S128_S1x1x128_2
          (Host.powf d (Host.divf (broadcastInDim S128 ![] bcast_S_S128 (constant S_ .f32 0x3F800000#32)) r)))))
    transposes_S32x8192x128_S32x128x8192_0_2_1) shapeCasts_S32x128x8192_S4096x8192

/-- The result, of the buffers after the loop. -/
theorem final_v35 (X : Vals) : after hostOps0_3 X (Proc.devRef .tc main_v35)
    = result (X (Proc.devRef .tc main_v0)) (joined (X (Proc.devRef .tc main_v6)) (X (Proc.devRef .tc main_v11_4)))
        (X (Proc.devRef .tc main_v3)) (X (Proc.devRef .tc main_arg2)) (X (Proc.devRef .tc main_v5)) := by
  after_results
  rfl

/-- The smoothed energies of all times at an index. -/
theorem joined_apply (x6 : FVec Ideal S8192x32x128 .f32) (st : FVec Ideal S8191x32x128 .f32) (t : Fin 8192) (b : Fin 32)
    (ch : Fin 128) : joined x6 st (ix3 t b ch)
      = if h : t.val = 0 then x6 (ix3 0 b ch) else st (ix3 ⟨t.val - 1, by omega⟩ b ch) := by
  unfold joined
  pointwise
  by_cases h : t.val = 0
  · rw [dif_pos (by omega), dif_pos h]
    exact congrArg x6 (congrArg (fun t => ix3 t b ch) (Fin.ext h))
  · rw [dif_neg (by omega), dif_neg h]

/-- The compression at an index: row and time give the channel's parameters, its energy and its smoothed energy. -/
theorem result_apply (x0 : FVec Ideal S32x128x8192 .f32) (sm : FVec Ideal S8192x32x128 .f32) (a d r : FVec Ideal S128 .f32)
    (R : Fin 4096) (t : Fin 8192) (b : Fin 32) (ch : Fin 128) (hb : b.val = R.val / 128) (hc : ch.val = R.val % 128) :
    result x0 sm a d r (ix2 R t)
      = Ideal.pow (Ideal.div (x0 (ix3 b ch t)) (Ideal.pow (Ideal.ofBits .f32 0x358637BD#32 + sm (ix3 t b ch)) (a (ix1 ch)))
          + d (ix1 ch)) (Ideal.div 1 (r (ix1 ch))) - Ideal.pow (d (ix1 ch)) (Ideal.div 1 (r (ix1 ch))) := by
  have hb' : R.val / 128 < 32 := by clear hb hc; omega
  have hc' : R.val % 128 < 128 := by clear hb hc; omega
  obtain rfl : b = ⟨R.val / 128, hb'⟩ := Fin.ext hb
  obtain rfl : ch = ⟨R.val % 128, hc'⟩ := Fin.ext hc
  unfold result
  pointwise

/-! ## The entries of the buffers the loop meets -/

/-- The energies, at an index, on every trip. -/
theorem at_v0 (k : ℕ) (b : Fin 32) (ch : Fin 128) (t : Fin 8192) :
    (atK m k c (Proc.devRef .tc main_v0) : FVec Ideal S32x128x8192 .f32) (ix3 b ch t) = row (xs m c) b ch t.val := by
  rw [loop_keeps m c main_v0 (by decide)]
  show (after hostOps0_2 (after hostOps0_1 (after hostOps0 (launchContents m c))) (Proc.devRef .tc main_v0) :
    FVec Ideal S32x128x8192 .f32) _ = _
  rw [after_of_writes_sub hostOps0_2 _ hostOps0_2_writes (by decide),
    after_of_writes_sub hostOps0_1 _ hostOps0_1_writes (by decide), entry_v0]
  exact squeezed _ b ch t

/-- The energies as the operations before the loop leave them. -/
theorem before_v0 : after hostOps0_1 (after hostOps0 (launchContents m c)) (Proc.devRef .tc main_v0)
    = (shapeCast S32x128x8192 (xs m c) shapeCasts_S32x1x128x8192_S32x128x8192 : FVec Ideal S32x128x8192 .f32) := by
  rw [after_of_writes_sub hostOps0_1 _ hostOps0_1_writes (by decide), entry_v0]

/-- The energies with time first, at an index, on every trip. -/
theorem at_v6 (k : ℕ) (b : Fin 32) (ch : Fin 128) (t : Fin 8192) :
    (atK m k c (Proc.devRef .tc main_v6) : FVec Ideal S8192x32x128 .f32) (ix3 t b ch) = row (xs m c) b ch t.val := by
  rw [loop_keeps m c main_v6 (by decide)]
  show (after hostOps0_2 (after hostOps0_1 (after hostOps0 (launchContents m c))) (Proc.devRef .tc main_v6) :
    FVec Ideal S8192x32x128 .f32) _ = _
  rw [entry_v6, before_v0, ← squeezed]
  pointwise

/-- A trip's energy, at an index: the energy of the next time. -/
theorem entry_energies (k : Fin 8191) (b : Fin 32) (ch : Fin 128) :
    energies (entryContents preI m c) (ix3 k b ch) = row (xs m c) b ch (k.val + 1) := by
  show (after hostOps0_2 (after hostOps0_1 (after hostOps0 (launchContents m c))) (Proc.devRef .tc main_v11_0) :
    FVec Ideal S8191x32x128 .f32) _ = _
  rw [entry_v11_0, before_v0, ← squeezed (xs m c) b ch (⟨k.val + 1, by omega⟩ : Fin 8192)]
  generalize shapeCast S32x128x8192 (xs m c) _ = y
  pointwise
  exact congrArg (fun t => y (ix3 b ch t)) (Fin.ext (Nat.add_comm _ _))

/-- The energy the loop starts with, at an index. -/
theorem entry_carried (b : Fin 32) (ch : Fin 128) :
    carried (entryContents preI m c) (ix2 b ch) = row (xs m c) b ch 0 := by
  show (after hostOps0_2 (after hostOps0_1 (after hostOps0 (launchContents m c))) (Proc.devRef .tc main_v11_3) :
    FVec Ideal S32x128 .f32) _ = _
  rw [entry_v11_3, before_v0]
  refine Eq.trans ?_ (squeezed (xs m c) b ch (0 : Fin 8192))
  generalize shapeCast S32x128x8192 (xs m c) _ = y
  pointwise

/-- The loop's weights, at an index. -/
theorem entry_weights (ch : Fin 128) : weights (entryContents preI m c) (ix1 ch) = weight (ws m c (ix1 ch)) := by
  show (after hostOps0_2 (after hostOps0_1 (after hostOps0 (launchContents m c))) (Proc.devRef .tc main_v11_1) :
    FVec Ideal S128 .f32) _ = _
  rw [entry_v11_1, entry_v1]
  unfold weight
  pointwise

/-- The exponents, at an index, on every trip. -/
theorem at_v3 (k : ℕ) (ch : Fin 128) :
    (atK m k c (Proc.devRef .tc main_v3) : FVec Ideal S128 .f32) (ix1 ch) = expo (alphas m c (ix1 ch)) := by
  rw [loop_keeps m c main_v3 (by decide)]
  show (after hostOps0_2 (after hostOps0_1 (after hostOps0 (launchContents m c))) (Proc.devRef .tc main_v3) :
    FVec Ideal S128 .f32) _ = _
  rw [entry_v3, after_of_writes_sub hostOps0_1 _ hostOps0_1_writes (by decide),
    after_of_writes_sub hostOps0 _ hostOps0_writes (by decide)]
  unfold expo
  pointwise

/-- The roots, at least one, at an index, on every trip. -/
theorem at_v5 (k : ℕ) (ch : Fin 128) :
    (atK m k c (Proc.devRef .tc main_v5) : FVec Ideal S128 .f32) (ix1 ch) = max (roots m c (ix1 ch)) 1 := by
  rw [loop_keeps m c main_v5 (by decide)]
  show (after hostOps0_2 (after hostOps0_1 (after hostOps0 (launchContents m c))) (Proc.devRef .tc main_v5) :
    FVec Ideal S128 .f32) _ = _
  rw [entry_v5, after_of_writes_sub hostOps0_1 _ hostOps0_1_writes (by decide),
    after_of_writes_sub hostOps0 _ hostOps0_writes (by decide)]
  pointwise

/-! ## The loop -/

/-- The trips' energies are those the loop starts with. -/
theorem at_energies (k : ℕ) : energies (atK m k c) = energies (entryContents preI m c) := loop_keeps m c main_v11_0 (by decide) k
/-- The trips' weights are those the loop starts with. -/
theorem at_weights (k : ℕ) : weights (atK m k c) = weights (entryContents preI m c) := loop_keeps m c main_v11_1 (by decide) k

/-- After `k` trips the carried energies are the smoothed energies at time `k`. -/
theorem at_carried (b : Fin 32) (ch : Fin 128) (k : ℕ) (hk : k ≤ 8191) :
    carried (atK m k c) (ix2 b ch) = smoothed (weight (ws m c (ix1 ch))) (row (xs m c) b ch) k := by
  induction k with
  | zero => exact entry_carried m c b ch
  | succ k ih =>
    have e : carried (atK m (k + 1) c) = res_main_while0b_v45 (atK m k c) :=
      (trip_agree (atK m k c) main_v11_3 (by decide)).trans (STEP_main_v11_3 _)
    rw [e, mean_apply _ k (by omega) (atK_ctr m c k), ih (by omega), at_energies, at_weights, entry_weights,
      entry_energies]
    rfl

/-- After `k` trips the rows below `k` of the array hold the smoothed energies of the times from one on. -/
theorem at_stored (b : Fin 32) (ch : Fin 128) (k : ℕ) (hk : k ≤ 8191) (j : Fin 8191) (hj : j.val < k) :
    stored (atK m k c) (ix3 j b ch) = smoothed (weight (ws m c (ix1 ch))) (row (xs m c) b ch) (j.val + 1) := by
  induction k with
  | zero => omega
  | succ k ih =>
    have e : stored (atK m (k + 1) c) = step_main_v11_4 (atK m k c) :=
      (trip_agree (atK m k c) main_v11_4 (by decide)).trans (STEP_main_v11_4 _)
    have e3 : carried (atK m (k + 1) c) = res_main_while0b_v45 (atK m k c) :=
      (trip_agree (atK m k c) main_v11_3 (by decide)).trans (STEP_main_v11_3 _)
    rw [e, stored_apply _ k (by omega) (atK_ctr m c k)]
    by_cases h : j.val = k
    · rw [if_pos h, ← e3, at_carried m c b ch (k + 1) hk, h]
    · rw [if_neg h]
      exact ih (by omega) (by omega)

/-- The reference's result, entry by entry. -/
theorem final_apply (R : Fin 4096) (t : Fin 8192) (b : Fin 32) (ch : Fin 128) (hb : b.val = R.val / 128)
    (hc : ch.val = R.val % 128) :
    (finalContents condOps preI bodyI postI 8191 m c (Proc.devRef .tc main_v35) : FVec Ideal S4096x8192 .f32) (ix2 R t)
      = value (xs m c) (alphas m c) (deltas m c) (roots m c) (ws m c) b ch t.val := by
  show (after hostOps0_3 (after condOps (atK m 8191 c)) (Proc.devRef .tc main_v35) : FVec Ideal S4096x8192 .f32) _ = _
  rw [final_v35, after_of_writes_sub _ _ condOps_writes (by decide), after_of_writes_sub _ _ condOps_writes (by decide),
    after_of_writes_sub _ _ condOps_writes (by decide), after_of_writes_sub _ _ condOps_writes (by decide),
    after_of_writes_sub _ _ condOps_writes (by decide), after_of_writes_sub _ _ condOps_writes (by decide),
    result_apply _ _ _ _ _ R t b ch hb hc, at_v0, at_v3, at_v5, loop_keeps m c main_arg2 (by decide),
    entry_keeps m c main_arg2 (by decide), joined_apply]
  unfold value Inputs.inv
  congr 6
  by_cases h : t.val = 0
  · rw [dif_pos h, at_v6]
    rw [h]
    rfl
  · rw [dif_neg h]
    refine (at_stored m c b ch 8191 le_rfl _ (by show t.val - 1 < 8191; omega)).trans ?_
    show smoothed _ _ (t.val - 1 + 1) = _
    rw [Nat.sub_add_cancel (by omega)]

/-- The references the operations after the loop write. -/
abbrev lastWrites : List (Ref sig .tc) :=
  [main_v12, main_v13, main_v14, main_v15, main_cst_4, main_v16, main_v17, main_cst_5, main_v18, main_v19, main_v20, main_v21,
    main_v22, main_v23, main_v24, main_v25, main_v26, main_v27, main_v28, main_v29, main_v30, main_v31, main_v32, main_v33,
    main_v34, main_v35]

/-- They write no other reference. -/
theorem last_writes : (hostOps0_3 : List (HloOp τ sig (Elt Ideal))).Forall fun op =>
    op.writes ⊆ (lastWrites.map (Proc.devRef (τ := τ) .tc)).toFinset :=
  StableHlo.forall_writes_sub_of_map rfl

/-- What no operation writes holds at the end what it held at the start. -/
theorem final_keeps (r : Ref sig .tc) (h0 : r ∉ hostOps0_W ++ hostOps0_1_W ++ hostOps0_2_W) (h1 : r ∉ loopWrites)
    (h2 : r ∉ lastWrites) :
    finalContents condOps preI bodyI postI 8191 m c (Proc.devRef .tc r) = launchContents m c (Proc.devRef .tc r) := by
  show after hostOps0_3 (after condOps (atK m 8191 c)) _ = _
  rw [after_of_writes_sub _ _ last_writes h2, after_of_writes_sub _ _ condOps_writes
    (fun h => h1 (by simp only [loopWrites, List.mem_append]; exact Or.inl (Or.inl (Or.inl (Or.inl h))))),
    loop_keeps m c r h1, entry_keeps m c r h0]

end Cert.ReferenceIdeal.Smooth
-- ==== Proof.lean ====
/-
  The claims about the kernel: it runs and leaves its arguments alone; its idealized program differs from it by the named
  constant alone; and on extended reals, wherever the precondition holds, it leaves what the reference leaves.
-/
module

public import proofs.«01_k».proof.Defs
public import proofs.«01_k».proof.Proof.Points
public import proofs.«01_k».proof.Proof.Reference
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_pre
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference's run: the result array holds what its operations leave there, and the arguments are as they were. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => ∀ c : Dev ReferenceIdeal.nD,
        (∀ (R : Fin 4096) (t : Fin 8192) (b : Fin 32) (ch : Fin 128), b.val = R.val / 128 → ch.val = R.val % 128 →
          (r.2.mem ((c.tc : Thread ReferenceIdeal.nD ReferenceIdeal.τ).loc ReferenceIdeal.main_v35) :
            FVec Ideal ReferenceIdeal.S4096x8192 .f32) (ix2 R t)
            = Inputs.value (ReferenceIdeal.Smooth.xs m c) (ReferenceIdeal.Smooth.alphas m c) (ReferenceIdeal.Smooth.deltas m c)
                (ReferenceIdeal.Smooth.roots m c) (ReferenceIdeal.Smooth.ws m c) b ch t.val)
        ∧ r.2.mem ((c.tc : Thread _ ReferenceIdeal.τ).loc ReferenceIdeal.main_arg0) = m ((c.tc : Thread _ ReferenceIdeal.τ).loc ReferenceIdeal.main_arg0)
        ∧ r.2.mem ((c.tc : Thread _ ReferenceIdeal.τ).loc ReferenceIdeal.main_arg1) = m ((c.tc : Thread _ ReferenceIdeal.τ).loc ReferenceIdeal.main_arg1)
        ∧ r.2.mem ((c.tc : Thread _ ReferenceIdeal.τ).loc ReferenceIdeal.main_arg2) = m ((c.tc : Thread _ ReferenceIdeal.τ).loc ReferenceIdeal.main_arg2)
        ∧ r.2.mem ((c.tc : Thread _ ReferenceIdeal.τ).loc ReferenceIdeal.main_arg3) = m ((c.tc : Thread _ ReferenceIdeal.τ).loc ReferenceIdeal.main_arg3)
        ∧ r.2.mem ((c.tc : Thread _ ReferenceIdeal.τ).loc ReferenceIdeal.main_arg4) = m ((c.tc : Thread _ ReferenceIdeal.τ).loc ReferenceIdeal.main_arg4)) :=
  (θ_run _ _ _).mono (fun r h c =>
    ⟨fun R t b ch hb hc => by
      rw [h c ReferenceIdeal.main_v35 rfl]
      exact ReferenceIdeal.Smooth.final_apply m c R t b ch hb hc,
    (h c ReferenceIdeal.main_arg0 rfl).trans (ReferenceIdeal.Smooth.final_keeps m c _ (by decide) (by decide) (by decide)),
    (h c ReferenceIdeal.main_arg1 rfl).trans (ReferenceIdeal.Smooth.final_keeps m c _ (by decide) (by decide) (by decide)),
    (h c ReferenceIdeal.main_arg2 rfl).trans (ReferenceIdeal.Smooth.final_keeps m c _ (by decide) (by decide) (by decide)),
    (h c ReferenceIdeal.main_arg3 rfl).trans (ReferenceIdeal.Smooth.final_keeps m c _ (by decide) (by decide) (by decide)),
    (h c ReferenceIdeal.main_arg4 rfl).trans (ReferenceIdeal.Smooth.final_keeps m c _ (by decide) (by decide) (by decide))⟩)
    (ReferenceIdeal.Value.run_fold (F := Ideal) m g)

/-- The reference runs, leaves its arguments alone, and has no semaphore. -/
theorem frame_reference : quiescent_ReferenceIdeal (hReferenceIdeal := ReferenceIdeal.Gen.facts) := fun m g _ =>
  (θ_run _ _ _).mono (fun r h => ⟨fun c => (h c).2, sem_eq_zero_of_no_sems (by decide) r.2⟩) (reference_run m g)

/-- Wherever the precondition holds, the kernel and the reference leave the same array. -/
theorem algebraic : algebraic_KernelIdeal_ReferenceIdeal_pre_pre (hKernelIdeal := KernelIdeal.Gen.facts)
    (hReferenceIdeal := ReferenceIdeal.Gen.facts) (hPre_pre := Pre_pre.Gen.facts) := by
  intro m g m' g' hpre hargs
  refine ⟨fun c => KernelIdeal.Value.G3 m c, KernelIdeal.Value.run m g, (θ_run _ _ _).mono (fun r h c => ⟨?_, (h c).2⟩)
    (reference_run m' g')⟩
  obtain ⟨a0, a1, a2, a3, a4⟩ := hargs c
  have fit : KernelIdeal.Points.Fit m c := Inputs.of_pre _ _ _ _ _ (hpre c)
  have hv := (h c).1
  unfold ReferenceIdeal.Smooth.xs ReferenceIdeal.Smooth.alphas ReferenceIdeal.Smooth.deltas ReferenceIdeal.Smooth.roots
    ReferenceIdeal.Smooth.ws at hv
  rw [a0, a1, a2, a3, a4] at hv
  funext i
  obtain ⟨R, t, rfl⟩ : ∃ (R : Fin 4096) (t : Fin 8192), i = ix2 R t := ⟨i 0, i 1, by blk_ext⟩
  have hR := R.isLt
  exact (hv R t ⟨R.val / 128, by omega⟩ ⟨R.val % 128, by omega⟩ rfl rfl).trans
    (KernelIdeal.Points.result_apply fit R t ⟨R.val / 128, by omega⟩ ⟨R.val % 128, by omega⟩ rfl rfl).symm

/-- Everything claimed. -/
theorem claim : Cert.Claim :=
  ⟨Kernel.Gen.facts, KernelIdeal.Gen.facts, ReferenceIdeal.Gen.facts, Pre_pre.Gen.facts,
    fun m g _ => Kernel.Gen.frame m g, fun m g _ => KernelIdeal.Gen.frame m g, fun m g _ => KernelIdeal.Gen.frame m g,
    frame_reference, fun m g _ => frame_reference m g trivial,
    IdealRules.named_const.statement KernelIdeal.κ "log2e" .f32 0x3FB8AA3B#32 (((Real.log 2)⁻¹ : ℝ) : EReal) rfl,
    algebraic⟩

end Cert.Proof

end
